-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_qk [hPre_finite_qk : Cert.Pre_finite_qk.Facts] (m : (ℓ : Loc Cert.AttnIdeal.nD Cert.AttnIdeal.τ Cert.AttnIdeal.sig) → Buf (Elt Ideal) ℓ) : Prop :=
  ∀ c : Dev Cert.AttnIdeal.nD,
    (Cert.Pre_finite_qk.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).1 = (fun _ => 1#1)
    ∧ (Cert.Pre_finite_qk.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).2.1 = (fun _ => 1#1)
    ∧ (Cert.Pre_finite_qk.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).2.2.1 = (fun _ => 1#1)
    ∧ (Cert.Pre_finite_qk.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_qk [hPre_finite_qk : Cert.Pre_finite_qk.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_qk.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).1 = (fun _ => 1#1)
    ∧ (Cert.Pre_finite_qk.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).2.1 = (fun _ => 1#1)
    ∧ (Cert.Pre_finite_qk.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).2.2.1 = (fun _ => 1#1)
    ∧ (Cert.Pre_finite_qk.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).2.2.2 = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjIdeal_finite_gw [hPre_finite_gw : Cert.Pre_finite_gw.Facts] (m : (ℓ : Loc Cert.ProjIdeal.nD Cert.ProjIdeal.τ Cert.ProjIdeal.sig) → Buf (Elt Ideal) ℓ) : Prop :=
  ∀ c : Dev Cert.ProjIdeal.nD,
    (Cert.Pre_finite_gw.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2))).1 = (fun _ => 1#1)
    ∧ (Cert.Pre_finite_gw.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2))).2 = (fun _ => 1#1)

def Pre_ProjRefIdeal (m : (ℓ : Loc Cert.ProjRefIdeal.nD Cert.ProjRefIdeal.τ Cert.ProjRefIdeal.sig) → Buf (Elt Ideal) ℓ) : Prop :=
  True

def Pre_ProjRefIdeal_finite_gw [hPre_finite_gw : Cert.Pre_finite_gw.Facts] (m : (ℓ : Loc Cert.ProjRefIdeal.nD Cert.ProjRefIdeal.τ Cert.ProjRefIdeal.sig) → Buf (Elt Ideal) ℓ) : Prop :=
  ∀ c : Dev Cert.ProjRefIdeal.nD,
    (Cert.Pre_finite_gw.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2))).1 = (fun _ => 1#1)
    ∧ (Cert.Pre_finite_gw.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2))).2 = (fun _ => 1#1)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnIdeal_pre_finite_qk [hAttnIdeal : Cert.AttnIdeal.Facts] [hPre_finite_qk : Cert.Pre_finite_qk.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_qk m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_AttnRefIdeal_pre_finite_qk [hAttnRefIdeal : Cert.AttnRefIdeal.Facts] [hPre_finite_qk : Cert.Pre_finite_qk.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_qk m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjIdeal_pre_finite_gw [hProjIdeal : Cert.ProjIdeal.Facts] [hPre_finite_gw : Cert.Pre_finite_gw.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal_finite_gw m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_ProjRefIdeal_pre_finite_gw [hProjRefIdeal : Cert.ProjRefIdeal.Facts] [hPre_finite_gw : Cert.Pre_finite_gw.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal_finite_gw m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def preserves_Attn_AttnIdeal : Prop :=
  IdealRules.named_const.Statement Cert.AttnIdeal.κ "scale2" .f32 0x3E16C740#32 (((3424635 / 33554432) * (Real.log 2)⁻¹ : ℝ) : EReal)
  ∧ IdealRules.named_const.Statement Cert.AttnIdeal.κ "mask" .f32 0xF149F2CA#32 ⊥

def algebraic_AttnIdeal_AttnRefIdeal_pre_finite_qk [hAttnIdeal : Cert.AttnIdeal.Facts] [hAttnRefIdeal : Cert.AttnRefIdeal.Facts] [hPre_finite_qk : Cert.Pre_finite_qk.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_qk m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)) →
    ∃ (v0 : (c : Dev Cert.AttnIdeal.nD) → Buf (Elt Ideal) ((c.tc : Thread Cert.AttnIdeal.nD Cert.AttnIdeal.τ).loc Cert.AttnIdeal.main_v14)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v14) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v27) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4))

def preserves_Proj_ProjIdeal : Prop :=
  True

def algebraic_ProjIdeal_ProjRefIdeal_pre_finite_gw [hProjIdeal : Cert.ProjIdeal.Facts] [hProjRefIdeal : Cert.ProjRefIdeal.Facts] [hPre_finite_gw : Cert.Pre_finite_gw.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal_finite_gw m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v32)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v32) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v49) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def Claim : Prop :=
  ∃ (hAttn : Cert.Attn.Facts) (hAttnIdeal : Cert.AttnIdeal.Facts) (hAttnRefIdeal : Cert.AttnRefIdeal.Facts) (hProj : Cert.Proj.Facts) (hProjIdeal : Cert.ProjIdeal.Facts) (hProjRefIdeal : Cert.ProjRefIdeal.Facts) (hPre_finite_qk : Cert.Pre_finite_qk.Facts) (hPre_finite_gw : Cert.Pre_finite_gw.Facts),
    quiescent_Attn (hAttn := hAttn)
    ∧ quiescent_AttnIdeal (hAttnIdeal := hAttnIdeal)
    ∧ quiescent_AttnIdeal_pre_finite_qk (hAttnIdeal := hAttnIdeal) (hPre_finite_qk := hPre_finite_qk)
    ∧ quiescent_AttnRefIdeal (hAttnRefIdeal := hAttnRefIdeal)
    ∧ quiescent_AttnRefIdeal_pre_finite_qk (hAttnRefIdeal := hAttnRefIdeal) (hPre_finite_qk := hPre_finite_qk)
    ∧ quiescent_Proj (hProj := hProj)
    ∧ quiescent_ProjIdeal (hProjIdeal := hProjIdeal)
    ∧ quiescent_ProjIdeal_pre_finite_gw (hProjIdeal := hProjIdeal) (hPre_finite_gw := hPre_finite_gw)
    ∧ quiescent_ProjRefIdeal (hProjRefIdeal := hProjRefIdeal)
    ∧ quiescent_ProjRefIdeal_pre_finite_gw (hProjRefIdeal := hProjRefIdeal) (hPre_finite_gw := hPre_finite_gw)
    ∧ preserves_Attn_AttnIdeal
    ∧ algebraic_AttnIdeal_AttnRefIdeal_pre_finite_qk (hAttnIdeal := hAttnIdeal) (hAttnRefIdeal := hAttnRefIdeal) (hPre_finite_qk := hPre_finite_qk)
    ∧ preserves_Proj_ProjIdeal
    ∧ algebraic_ProjIdeal_ProjRefIdeal_pre_finite_gw (hProjIdeal := hProjIdeal) (hProjRefIdeal := hProjRefIdeal) (hPre_finite_gw := hPre_finite_gw)
-- ==== Pre_finite_gw.lean ====
abbrev S2x4096x1024 : Shape := ⟨3, ![2, 4096, 1024]⟩
abbrev S1024 : Shape := ⟨1, ![1024]⟩
abbrev S1024x6304 : Shape := ⟨2, ![1024, 6304]⟩
abbrev S_ : Shape := ⟨0, ![]⟩

class Facts : Prop where
  bcast_S_S1024 : S_.BroadcastsInDim S1024 (![] : Fin 0 → Fin S1024.rank)
  bcast_S_S1024x6304 : S_.BroadcastsInDim S1024x6304 (![] : Fin 0 → Fin S1024x6304.rank)

variable [Facts]

def fn {F : FTy → Type} [FloatOps F] (main_arg0 : FVec F S2x4096x1024 .f32) (main_arg1 : FVec F S1024 .f32) (main_arg2 : FVec F S1024x6304 .f32) : IVec S1024 1 × IVec S1024x6304 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024x6304 .f32 := Host.absf main_arg2
  let main_cst_0 : FVec F S_ .f32 := constant S_ .f32 0x7F800000#32
  let main_v4 : FVec F S1024x6304 .f32 := broadcastInDim S1024x6304 ![] bcast_S_S1024x6304 main_cst_0
  let main_v5 : IVec S1024x6304 1 := cmpf .olt main_v3 main_v4
  (main_v2, main_v5)
-- ==== Pre_finite_qk.lean ====
abbrev S2x4096x8x64 : Shape := ⟨4, ![2, 4096, 8, 64]⟩
abbrev S2x4096x8x32 : Shape := ⟨4, ![2, 4096, 8, 32]⟩
abbrev S2x4096x32 : Shape := ⟨3, ![2, 4096, 32]⟩
abbrev S_ : Shape := ⟨0, ![]⟩

class Facts : Prop where
  bcast_S_S2x4096x8x64 : S_.BroadcastsInDim S2x4096x8x64 (![] : Fin 0 → Fin S2x4096x8x64.rank)
  bcast_S_S2x4096x8x32 : S_.BroadcastsInDim S2x4096x8x32 (![] : Fin 0 → Fin S2x4096x8x32.rank)
  bcast_S_S2x4096x32 : S_.BroadcastsInDim S2x4096x32 (![] : Fin 0 → Fin S2x4096x32.rank)

variable [Facts]

def fn {F : FTy → Type} [FloatOps F] (main_arg0 : FVec F S2x4096x8x64 .f32) (main_arg1 : FVec F S2x4096x8x32 .f32) (main_arg2 : FVec F S2x4096x8x64 .f32) (main_arg3 : FVec F S2x4096x32 .f32) (main_arg4 : FVec F S2x4096x8x64 .f32) : IVec S2x4096x8x64 1 × IVec S2x4096x8x32 1 × IVec S2x4096x8x64 1 × IVec S2x4096x32 1 :=
  let main_v0 : FVec F S2x4096x8x64 .f32 := Host.absf main_arg0
  let main_cst : FVec F S_ .f32 := constant S_ .f32 0x7F800000#32
  let main_v1 : FVec F S2x4096x8x64 .f32 := broadcastInDim S2x4096x8x64 ![] bcast_S_S2x4096x8x64 main_cst
  let main_v2 : IVec S2x4096x8x64 1 := cmpf .olt main_v0 main_v1
  let main_v3 : FVec F S2x4096x8x32 .f32 := Host.absf main_arg1
  let main_cst_0 : FVec F S_ .f32 := constant S_ .f32 0x7F800000#32
  let main_v4 : FVec F S2x4096x8x32 .f32 := broadcastInDim S2x4096x8x32 ![] bcast_S_S2x4096x8x32 main_cst_0
  let main_v5 : IVec S2x4096x8x32 1 := cmpf .olt main_v3 main_v4
  let main_v6 : FVec F S2x4096x8x64 .f32 := Host.absf main_arg2
  let main_cst_1 : FVec F S_ .f32 := constant S_ .f32 0x7F800000#32
  let main_v7 : FVec F S2x4096x8x64 .f32 := broadcastInDim S2x4096x8x64 ![] bcast_S_S2x4096x8x64 main_cst_1
  let main_v8 : IVec S2x4096x8x64 1 := cmpf .olt main_v6 main_v7
  let main_v9 : FVec F S2x4096x32 .f32 := Host.absf main_arg3
  let main_cst_2 : FVec F S_ .f32 := constant S_ .f32 0x7F800000#32
  let main_v10 : FVec F S2x4096x32 .f32 := broadcastInDim S2x4096x32 ![] bcast_S_S2x4096x32 main_cst_2
  let main_v11 : IVec S2x4096x32 1 := cmpf .olt main_v9 main_v10
  (main_v2, main_v5, main_v8, main_v11)
-- ==== Attn.lean ====
abbrev S2x4096x8x64 : Shape := ⟨4, ![2, 4096, 8, 64]⟩
abbrev S2x4096x8x32 : Shape := ⟨4, ![2, 4096, 8, 32]⟩
abbrev S2x4096x32 : Shape := ⟨3, ![2, 4096, 32]⟩
abbrev S_ : Shape := ⟨0, ![]⟩
abbrev S2x4096x8x128 : Shape := ⟨4, ![2, 4096, 8, 128]⟩
abbrev S2x4096x1x32 : Shape := ⟨4, ![2, 4096, 1, 32]⟩
abbrev S8192x1024 : Shape := ⟨2, ![8192, 1024]⟩
abbrev S8192x512 : Shape := ⟨2, ![8192, 512]⟩
abbrev S1024x256 : Shape := ⟨2, ![1024, 256]⟩
abbrev S4096x256 : Shape := ⟨2, ![4096, 256]⟩
abbrev S1024x128 : Shape := ⟨2, ![1024, 128]⟩
abbrev S512x128 : Shape := ⟨2, ![512, 128]⟩
abbrev S512x1 : Shape := ⟨2, ![512, 1]⟩
abbrev S512x1024 : Shape := ⟨2, ![512, 1024]⟩
abbrev S512 : Shape := ⟨1, ![512]⟩
abbrev S512x512 : Shape := ⟨2, ![512, 512]⟩
abbrev S512x64 : Shape := ⟨2, ![512, 64]⟩

abbrev nBuf : Space → Nat
  | .hbm => 23
  | .vmem => 8
  | .smem => 0
  | _ => 0

abbrev bufTy : (tb : Table) → Fin (tcTables nBuf tb) → BufTy
  | .hbm, ⟨0, _⟩ => ⟨S2x4096x8x64, .f32⟩
  | .hbm, ⟨1, _⟩ => ⟨S2x4096x8x32, .f32⟩
  | .hbm, ⟨2, _⟩ => ⟨S2x4096x8x64, .f32⟩
  | .hbm, ⟨3, _⟩ => ⟨S2x4096x32, .f32⟩
  | .hbm, ⟨4, _⟩ => ⟨S2x4096x8x64, .f32⟩
  | .hbm, ⟨5, _⟩ => ⟨S_, .f32⟩
  | .hbm, ⟨6, _⟩ => ⟨S2x4096x8x32, .f32⟩
  | .hbm, ⟨7, _⟩ => ⟨S2x4096x8x128, .f32⟩
  | .hbm, ⟨8, _⟩ => ⟨S2x4096x1x32, .f32⟩
  | .hbm, ⟨9, _⟩ => ⟨S2x4096x8x32, .f32⟩
  | .hbm, ⟨10, _⟩ => ⟨S_, .f32⟩
  | .hbm, ⟨11, _⟩ => ⟨S2x4096x8x32, .f32⟩
  | .hbm, ⟨12, _⟩ => ⟨S2x4096x8x128, .f32⟩
  | .hbm, ⟨13, _⟩ => ⟨S_, .f32⟩
  | .hbm, ⟨14, _⟩ => ⟨S2x4096x8x64, .f32⟩
  | .hbm, ⟨15, _⟩ => ⟨S2x4096x8x128, .f32⟩
  | .hbm, ⟨16, _⟩ => ⟨S8192x1024, .f32⟩
  | .hbm, ⟨17, _⟩ => ⟨S8192x1024, .bf16⟩
  | .hbm, ⟨18, _⟩ => ⟨S8192x1024, .f32⟩
  | .hbm, ⟨19, _⟩ => ⟨S8192x1024, .bf16⟩
  | .hbm, ⟨20, _⟩ => ⟨S8192x1024, .f32⟩
  | .hbm, ⟨21, _⟩ => ⟨S8192x1024, .bf16⟩
  | .hbm, ⟨22, _⟩ => ⟨S8192x512, .bf16⟩
  | .local _ .vmem, ⟨0, _⟩ => ⟨S1024x256, .bf16⟩
  | .local _ .vmem, ⟨1, _⟩ => ⟨S1024x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S1024x128, .bf16⟩
  | .local _ .vmem, ⟨7, _⟩ => ⟨S1024x128, .bf16⟩
  | _, _ => ⟨S2x4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 4], ![false, false, false]⟩

@[reducible] def k0_t1_loop (i : grid0.Coords) : Scf.Loop 32 :=
  let c0_i32 : BitVec 32 := 0#32
  let arg2 : BitVec 32 := BitVec.ofNat 32 (i 2).val
  let v36 : BitVec 32 := Scalar.subi arg2 c0_i32
  let c1_i32 : BitVec 32 := 1#32
  let v38 : BitVec 32 := Scalar.divsi v36 c1_i32
  let v39 : BitVec 32 := Scalar.muli v38 c1_i32
  let v40 : BitVec 32 := Scalar.addi c0_i32 v39
  let c1_i32_20 : BitVec 32 := 1#32
  ⟨c0_i32, v40, c1_i32_20⟩
def k0_mult1 (i : grid0.Coords) (k0_t1 : Fin (k0_t1_loop i).trips) : BitVec 32 :=
  let c0_i32 : BitVec 32 := 0#32
  let c1_i32_20 : BitVec 32 := 1#32
  let arg7 : BitVec 32 := Scf.iv c0_i32 c1_i32_20 k0_t1
  let c1024_i32_57 : BitVec 32 := 1024#32
  let v187 : BitVec 32 := Scalar.muli arg7 c1024_i32_57
  v187
def k0_off1 (i : grid0.Coords) (k0_t1 : Fin (k0_t1_loop i).trips) : Fin 2 → Nat :=
  let c0_i32 : BitVec 32 := 0#32
  let c1_i32_20 : BitVec 32 := 1#32
  let arg7 : BitVec 32 := Scf.iv c0_i32 c1_i32_20 k0_t1
  let c1024_i32_57 : BitVec 32 := 1024#32
  let v187 : BitVec 32 := Scalar.muli arg7 c1024_i32_57
  let v188 : BitVec 32 := v187
  let v189 : Index := Scalar.indexCast v188
  let c0_58 : Index := 0#32
  ![v189.toNat, 0]
def k0_off2 (i : grid0.Coords) (k0_t1 : Fin (k0_t1_loop i).trips) : Fin 2 → Nat :=
  let c0_i32 : BitVec 32 := 0#32
  let c1_i32_20 : BitVec 32 := 1#32
  let arg7 : BitVec 32 := Scf.iv c0_i32 c1_i32_20 k0_t1
  let c1024_i32_57 : BitVec 32 := 1024#32
  let v187 : BitVec 32 := Scalar.muli arg7 c1024_i32_57
  let v188 : BitVec 32 := v187
  let v237 : Index := Scalar.indexCast v188
  let c128_70 : Index := 128#32
  ![v237.toNat, 128]
@[reducible] def k0_t2_loop (i : grid0.Coords) : Scf.Loop 32 :=
  let c0_i32 : BitVec 32 := 0#32
  let arg2 : BitVec 32 := BitVec.ofNat 32 (i 2).val
  let v36 : BitVec 32 := Scalar.subi arg2 c0_i32
  let c1_i32 : BitVec 32 := 1#32
  let v38 : BitVec 32 := Scalar.divsi v36 c1_i32
  let v39 : BitVec 32 := Scalar.muli v38 c1_i32
  let v40 : BitVec 32 := Scalar.addi c0_i32 v39
  let v37 : BitVec 32 := Scalar.addi c0_i32 v36
  let c1_i32_21 : BitVec 32 := 1#32
  ⟨v40, v37, c1_i32_21⟩
def k0_mult2 (i : grid0.Coords) (k0_t2 : Fin (k0_t2_loop i).trips) : BitVec 32 :=
  let c0_i32 : BitVec 32 := 0#32
  let arg2 : BitVec 32 := BitVec.ofNat 32 (i 2).val
  let v36 : BitVec 32 := Scalar.subi arg2 c0_i32
  let c1_i32 : BitVec 32 := 1#32
  let v38 : BitVec 32 := Scalar.divsi v36 c1_i32
  let v39 : BitVec 32 := Scalar.muli v38 c1_i32
  let v40 : BitVec 32 := Scalar.addi c0_i32 v39
  let c1_i32_21 : BitVec 32 := 1#32
  let arg7 : BitVec 32 := Scf.iv v40 c1_i32_21 k0_t2
  let c1024_i32_57 : BitVec 32 := 1024#32
  let v187 : BitVec 32 := Scalar.muli arg7 c1024_i32_57
  v187
def k0_off3 (i : grid0.Coords) (k0_t2 : Fin (k0_t2_loop i).trips) : Fin 2 → Nat :=
  let c0_i32 : BitVec 32 := 0#32
  let arg2 : BitVec 32 := BitVec.ofNat 32 (i 2).val
  let v36 : BitVec 32 := Scalar.subi arg2 c0_i32
  let c1_i32 : BitVec 32 := 1#32
  let v38 : BitVec 32 := Scalar.divsi v36 c1_i32
  let v39 : BitVec 32 := Scalar.muli v38 c1_i32
  let v40 : BitVec 32 := Scalar.addi c0_i32 v39
  let c1_i32_21 : BitVec 32 := 1#32
  let arg7 : BitVec 32 := Scf.iv v40 c1_i32_21 k0_t2
  let c1024_i32_57 : BitVec 32 := 1024#32
  let v187 : BitVec 32 := Scalar.muli arg7 c1024_i32_57
  let v188 : BitVec 32 := v187
  let v189 : Index := Scalar.indexCast v188
  let c0_58 : Index := 0#32
  ![v189.toNat, 0]
def k0_off4 (i : grid0.Coords) (k0_t2 : Fin (k0_t2_loop i).trips) : Fin 2 → Nat :=
  let c0_i32 : BitVec 32 := 0#32
  let arg2 : BitVec 32 := BitVec.ofNat 32 (i 2).val
  let v36 : BitVec 32 := Scalar.subi arg2 c0_i32
  let c1_i32 : BitVec 32 := 1#32
  let v38 : BitVec 32 := Scalar.divsi v36 c1_i32
  let v39 : BitVec 32 := Scalar.muli v38 c1_i32
  let v40 : BitVec 32 := Scalar.addi c0_i32 v39
  let c1_i32_21 : BitVec 32 := 1#32
  let arg7 : BitVec 32 := Scf.iv v40 c1_i32_21 k0_t2
  let c1024_i32_57 : BitVec 32 := 1024#32
  let v187 : BitVec 32 := Scalar.muli arg7 c1024_i32_57
  let v188 : BitVec 32 := v187
  let v237 : Index := Scalar.indexCast v188
  let c128_70 : Index := 128#32
  ![v237.toNat, 128]
def k0_mult3 (i : grid0.Coords) : BitVec 32 :=
  let arg2 : BitVec 32 := BitVec.ofNat 32 (i 2).val
  let c1024_i32 : BitVec 32 := 1024#32
  let v43 : BitVec 32 := Scalar.muli arg2 c1024_i32
  v43
def k0_off5 (i : grid0.Coords) : Fin 2 → Nat :=
  let arg2 : BitVec 32 := BitVec.ofNat 32 (i 2).val
  let c1024_i32 : BitVec 32 := 1024#32
  let v43 : BitVec 32 := Scalar.muli arg2 c1024_i32
  let v44 : BitVec 32 := v43
  let v45 : Index := Scalar.indexCast v44
  let c0_22 : Index := 0#32
  ![v45.toNat, 0]
def k0_off6 (i : grid0.Coords) : Fin 2 → Nat :=
  let arg2 : BitVec 32 := BitVec.ofNat 32 (i 2).val
  let c1024_i32 : BitVec 32 := 1024#32
  let v43 : BitVec 32 := Scalar.muli arg2 c1024_i32
  let v44 : BitVec 32 := v43
  let v76 : Index := Scalar.indexCast v44
  let c0_30 : Index := 0#32
  ![v76.toNat, 0]
def k0_off7 (i : grid0.Coords) : Fin 2 → Nat :=
  let arg2 : BitVec 32 := BitVec.ofNat 32 (i 2).val
  let c1024_i32 : BitVec 32 := 1024#32
  let v43 : BitVec 32 := Scalar.muli arg2 c1024_i32
  let v44 : BitVec 32 := v43
  let v107 : Index := Scalar.indexCast v44
  let c128_37 : Index := 128#32
  ![v107.toNat, 128]
def k0_off8 (i : grid0.Coords) : Fin 2 → Nat :=
  let arg2 : BitVec 32 := BitVec.ofNat 32 (i 2).val
  let c1024_i32 : BitVec 32 := 1024#32
  let v43 : BitVec 32 := Scalar.muli arg2 c1024_i32
  let v44 : BitVec 32 := v43
  let v138 : Index := Scalar.indexCast v44
  let c128_45 : Index := 128#32
  ![v138.toNat, 128]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== AttnIdeal.lean ====
variable {F : FTy → Type} [FloatOps F] [Named F]
def κ : String → Option EReal := fun
  | "mask" => some ⊥
  | "scale2" => some (((3424635 / 33554432) * (Real.log 2)⁻¹ : ℝ) : EReal)
  | _ => none
-- ==== AttnRefIdeal.lean ====
abbrev S2x4096x8x64 : Shape := ⟨4, ![2, 4096, 8, 64]⟩
abbrev S2x4096x8x32 : Shape := ⟨4, ![2, 4096, 8, 32]⟩
abbrev S2x4096x32 : Shape := ⟨3, ![2, 4096, 32]⟩
abbrev S2x8x4096x4096 : Shape := ⟨4, ![2, 8, 4096, 4096]⟩
abbrev S2x4096x4096x8 : Shape := ⟨4, ![2, 4096, 4096, 8]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S2x8x4096 : Shape := ⟨3, ![2, 8, 4096]⟩
abbrev S2x8x4096x1 : Shape := ⟨4, ![2, 8, 4096, 1]⟩
abbrev S2x8x64x4096 : Shape := ⟨4, ![2, 8, 64, 4096]⟩
abbrev S8192x512 : Shape := ⟨2, ![8192, 512]⟩

abbrev nBuf : Space → Nat
  | .hbm => 41
  | .vmem => 0
  | .smem => 0
  | _ => 0

abbrev bufTy : (tb : Table) → Fin (tcTables nBuf tb) → BufTy
  | .hbm, ⟨0, _⟩ => ⟨S2x4096x8x64, .f32⟩
  | .hbm, ⟨1, _⟩ => ⟨S2x4096x8x32, .f32⟩
  | .hbm, ⟨2, _⟩ => ⟨S2x4096x8x64, .f32⟩
  | .hbm, ⟨3, _⟩ => ⟨S2x4096x32, .f32⟩
  | .hbm, ⟨4, _⟩ => ⟨S2x4096x8x64, .f32⟩
  | .hbm, ⟨5, _⟩ => ⟨S2x8x4096x4096, .f32⟩
  | .hbm, ⟨6, _⟩ => ⟨S2x4096x4096x8, .f32⟩
  | .hbm, ⟨7, _⟩ => ⟨S2x8x4096x4096, .f32⟩
  | .hbm, ⟨8, _⟩ => ⟨S2x8x4096x4096, .f32⟩
  | .hbm, ⟨9, _⟩ => ⟨S_, .f32⟩
  | .hbm, ⟨10, _⟩ => ⟨S2x8x4096x4096, .f32⟩
  | .hbm, ⟨11, _⟩ => ⟨S2x8x4096x4096, .f32⟩
  | .hbm, ⟨12, _⟩ => ⟨S4096, .i32⟩
  | .hbm, ⟨13, _⟩ => ⟨S1x4096, .i32⟩
  | .hbm, ⟨14, _⟩ => ⟨S4096x1, .i32⟩
  | .hbm, ⟨15, _⟩ => ⟨S4096x4096, .i32⟩
  | .hbm, ⟨16, _⟩ => ⟨S4096x4096, .i32⟩
  | .hbm, ⟨17, _⟩ => ⟨S4096x4096, .i1⟩
  | .hbm, ⟨18, _⟩ => ⟨S_, .f32⟩
  | .hbm, ⟨19, _⟩ => ⟨S_, .f32⟩
  | .hbm, ⟨20, _⟩ => ⟨S2x8x4096x4096, .i1⟩
  | .hbm, ⟨21, _⟩ => ⟨S2x8x4096x4096, .f32⟩
  | .hbm, ⟨22, _⟩ => ⟨S2x8x4096x4096, .f32⟩
  | .hbm, ⟨23, _⟩ => ⟨S_, .f32⟩
  | .hbm, ⟨24, _⟩ => ⟨S2x8x4096, .f32⟩
  | .hbm, ⟨25, _⟩ => ⟨S_, .f32⟩
  | .hbm, ⟨26, _⟩ => ⟨S2x8x4096, .f32⟩
  | .hbm, ⟨27, _⟩ => ⟨S2x8x4096, .f32⟩
  | .hbm, ⟨28, _⟩ => ⟨S2x8x4096x1, .f32⟩
  | .hbm, ⟨29, _⟩ => ⟨S2x8x4096x4096, .f32⟩
  | .hbm, ⟨30, _⟩ => ⟨S2x8x4096x4096, .f32⟩
  | .hbm, ⟨31, _⟩ => ⟨S2x8x4096x4096, .f32⟩
  | .hbm, ⟨32, _⟩ => ⟨S_, .f32⟩
  | .hbm, ⟨33, _⟩ => ⟨S2x8x4096, .f32⟩
  | .hbm, ⟨34, _⟩ => ⟨S2x8x4096x1, .f32⟩
  | .hbm, ⟨35, _⟩ => ⟨S2x8x4096x4096, .f32⟩
  | .hbm, ⟨36, _⟩ => ⟨S2x8x4096x4096, .f32⟩
  | .hbm, ⟨37, _⟩ => ⟨S2x8x64x4096, .f32⟩
  | .hbm, ⟨38, _⟩ => ⟨S2x4096x8x64, .f32⟩
  | .hbm, ⟨39, _⟩ => ⟨S8192x512, .f32⟩
  | .hbm, ⟨40, _⟩ => ⟨S8192x512, .bf16⟩
  | _, _ => ⟨S2x4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Proj.lean ====
abbrev S2x4096x1024 : Shape := ⟨3, ![2, 4096, 1024]⟩
abbrev S1024 : Shape := ⟨1, ![1024]⟩
abbrev S1024x6304 : Shape := ⟨2, ![1024, 6304]⟩
abbrev S1x1024x6304 : Shape := ⟨3, ![1, 1024, 6304]⟩
abbrev S1x1024x512 : Shape := ⟨3, ![1, 1024, 512]⟩
abbrev S1x1024x256 : Shape := ⟨3, ![1, 1024, 256]⟩
abbrev S1x1024x128 : Shape := ⟨3, ![1, 1024, 128]⟩
abbrev S1x1024x32 : Shape := ⟨3, ![1, 1024, 32]⟩
abbrev S1x1024x3072 : Shape := ⟨3, ![1, 1024, 3072]⟩
abbrev S1x1024x8x64 : Shape := ⟨4, ![1, 1024, 8, 64]⟩
abbrev S_ : Shape := ⟨0, ![]⟩
abbrev S1x1024x8x128 : Shape := ⟨4, ![1, 1024, 8, 128]⟩
abbrev S1x1024x1024 : Shape := ⟨3, ![1, 1024, 1024]⟩
abbrev S1x1024x2x64 : Shape := ⟨4, ![1, 1024, 2, 64]⟩
abbrev S1x1024x2x128 : Shape := ⟨4, ![1, 1024, 2, 128]⟩
abbrev S1x1024x16 : Shape := ⟨3, ![1, 1024, 16]⟩
abbrev S1x1024x7296 : Shape := ⟨3, ![1, 1024, 7296]⟩
abbrev S1024x7296 : Shape := ⟨2, ![1024, 7296]⟩
abbrev S8192x1024 : Shape := ⟨2, ![8192, 1024]⟩
abbrev S1x1024 : Shape := ⟨2, ![1, 1024]⟩
abbrev S8192x7296 : Shape := ⟨2, ![8192, 7296]⟩
abbrev S1024x1024 : Shape := ⟨2, ![1024, 1024]⟩
abbrev S1024x2432 : Shape := ⟨2, ![1024, 2432]⟩
abbrev S1024x1 : Shape := ⟨2, ![1024, 1]⟩

abbrev nBuf : Space → Nat
  | .hbm => 46
  | .vmem => 8
  | .smem => 0
  | _ => 0

abbrev bufTy : (tb : Table) → Fin (tcTables nBuf tb) → BufTy
  | .hbm, ⟨0, _⟩ => ⟨S2x4096x1024, .f32⟩
  | .hbm, ⟨1, _⟩ => ⟨S1024, .f32⟩
  | .hbm, ⟨2, _⟩ => ⟨S1024x6304, .f32⟩
  | .hbm, ⟨3, _⟩ => ⟨S1x1024x6304, .f32⟩
  | .hbm, ⟨4, _⟩ => ⟨S1x1024x512, .f32⟩
  | .hbm, ⟨5, _⟩ => ⟨S1x1024x512, .f32⟩
  | .hbm, ⟨6, _⟩ => ⟨S1x1024x512, .f32⟩
  | .hbm, ⟨7, _⟩ => ⟨S1x1024x512, .f32⟩
  | .hbm, ⟨8, _⟩ => ⟨S1x1024x256, .f32⟩
  | .hbm, ⟨9, _⟩ => ⟨S1x1024x128, .f32⟩
  | .hbm, ⟨10, _⟩ => ⟨S1x1024x32, .f32⟩
  | .hbm, ⟨11, _⟩ => ⟨S1x1024x512, .f32⟩
  | .hbm, ⟨12, _⟩ => ⟨S1x1024x128, .f32⟩
  | .hbm, ⟨13, _⟩ => ⟨S1x1024x128, .f32⟩
  | .hbm, ⟨14, _⟩ => ⟨S1x1024x3072, .f32⟩
  | .hbm, ⟨15, _⟩ => ⟨S1x1024x8x64, .f32⟩
  | .hbm, ⟨16, _⟩ => ⟨S_, .i32⟩
  | .hbm, ⟨17, _⟩ => ⟨S_, .f32⟩
  | .hbm, ⟨18, _⟩ => ⟨S1x1024x8x128, .f32⟩
  | .hbm, ⟨19, _⟩ => ⟨S1x1024x1024, .f32⟩
  | .hbm, ⟨20, _⟩ => ⟨S1x1024x2x64, .f32⟩
  | .hbm, ⟨21, _⟩ => ⟨S_, .i32⟩
  | .hbm, ⟨22, _⟩ => ⟨S_, .f32⟩
  | .hbm, ⟨23, _⟩ => ⟨S1x1024x2x128, .f32⟩
  | .hbm, ⟨24, _⟩ => ⟨S1x1024x256, .f32⟩
  | .hbm, ⟨25, _⟩ => ⟨S1x1024x2x64, .f32⟩
  | .hbm, ⟨26, _⟩ => ⟨S_, .i32⟩
  | .hbm, ⟨27, _⟩ => ⟨S_, .f32⟩
  | .hbm, ⟨28, _⟩ => ⟨S1x1024x2x128, .f32⟩
  | .hbm, ⟨29, _⟩ => ⟨S1x1024x256, .f32⟩
  | .hbm, ⟨30, _⟩ => ⟨S_, .i32⟩
  | .hbm, ⟨31, _⟩ => ⟨S_, .f32⟩
  | .hbm, ⟨32, _⟩ => ⟨S1x1024x128, .f32⟩
  | .hbm, ⟨33, _⟩ => ⟨S1x1024x16, .f32⟩
  | .hbm, ⟨34, _⟩ => ⟨S1x1024x16, .f32⟩
  | .hbm, ⟨35, _⟩ => ⟨S1x1024x16, .f32⟩
  | .hbm, ⟨36, _⟩ => ⟨S1x1024x32, .f32⟩
  | .hbm, ⟨37, _⟩ => ⟨S_, .i32⟩
  | .hbm, ⟨38, _⟩ => ⟨S_, .f32⟩
  | .hbm, ⟨39, _⟩ => ⟨S1x1024x128, .f32⟩
  | .hbm, ⟨40, _⟩ => ⟨S1x1024x7296, .f32⟩
  | .hbm, ⟨41, _⟩ => ⟨S1x1024x7296, .bf16⟩
  | .hbm, ⟨42, _⟩ => ⟨S1024x7296, .bf16⟩
  | .hbm, ⟨43, _⟩ => ⟨S8192x1024, .f32⟩
  | .hbm, ⟨44, _⟩ => ⟨S1x1024, .f32⟩
  | .hbm, ⟨45, _⟩ => ⟨S8192x7296, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2432, .bf16⟩
  | .local _ .vmem, ⟨4, _⟩ => ⟨S1024x2432, .bf16⟩
  | .local _ .vmem, ⟨5, _⟩ => ⟨S1024x2432, .bf16⟩
  | .local _ .vmem, ⟨6, _⟩ => ⟨S1024x2432, .bf16⟩
  | .local _ .vmem, ⟨7, _⟩ => ⟨S1024x1024, .bf16⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_c : Ref sig .tc := ⟨.hbm, 16, rfl⟩
abbrev main_call0_v0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_c_0 : Ref sig .tc := ⟨.hbm, 21, rfl⟩
abbrev main_call1_v0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_1 : Ref sig .tc := ⟨.hbm, 26, rfl⟩
abbrev main_call2_v0 : Ref sig .tc := ⟨.hbm, 27, rfl⟩
abbrev main_v19 : Ref sig .tc := ⟨.hbm, 28, rfl⟩
abbrev main_v20 : Ref sig .tc := ⟨.hbm, 29, rfl⟩
abbrev main_c_2 : Ref sig .tc := ⟨.hbm, 30, rfl⟩
abbrev main_call3_v0 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_3 : Ref sig .tc := ⟨.hbm, 37, rfl⟩
abbrev main_call4_v0 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x2432 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2432 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjRefIdeal.lean ====
abbrev S2x4096x1024 : Shape := ⟨3, ![2, 4096, 1024]⟩
abbrev S1024 : Shape := ⟨1, ![1024]⟩
abbrev S1024x6304 : Shape := ⟨2, ![1024, 6304]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S2x4096x6304 : Shape := ⟨3, ![2, 4096, 6304]⟩
abbrev S2x4096x512 : Shape := ⟨3, ![2, 4096, 512]⟩
abbrev S2x4096x256 : Shape := ⟨3, ![2, 4096, 256]⟩
abbrev S2x4096x128 : Shape := ⟨3, ![2, 4096, 128]⟩
abbrev S2x4096x32 : Shape := ⟨3, ![2, 4096, 32]⟩
abbrev S2x4096x3072 : Shape := ⟨3, ![2, 4096, 3072]⟩
abbrev S2x4096x16 : Shape := ⟨3, ![2, 4096, 16]⟩
abbrev S2x4096x8x64 : Shape := ⟨4, ![2, 4096, 8, 64]⟩
abbrev S2x4096x8x128 : Shape := ⟨4, ![2, 4096, 8, 128]⟩
abbrev S2x4096x2x64 : Shape := ⟨4, ![2, 4096, 2, 64]⟩
abbrev S2x4096x2x128 : Shape := ⟨4, ![2, 4096, 2, 128]⟩
abbrev S2x4096x64 : Shape := ⟨3, ![2, 4096, 64]⟩
abbrev S2x4096x7296 : Shape := ⟨3, ![2, 4096, 7296]⟩
abbrev S8192x7296 : Shape := ⟨2, ![8192, 7296]⟩

abbrev nBuf : Space → Nat
  | .hbm => 63
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S1024, .f32⟩
  | .hbm, ⟨2, _⟩ => ⟨S1024x6304, .f32⟩
  | .hbm, ⟨3, _⟩ => ⟨S2x4096x1024, .f32⟩
  | .hbm, ⟨4, _⟩ => ⟨S_, .f32⟩
  | .hbm, ⟨5, _⟩ => ⟨S2x4096, .f32⟩
  | .hbm, ⟨6, _⟩ => ⟨S2x4096x1, .f32⟩
  | .hbm, ⟨7, _⟩ => ⟨S_, .f32⟩
  | .hbm, ⟨8, _⟩ => ⟨S2x4096x1, .f32⟩
  | .hbm, ⟨9, _⟩ => ⟨S2x4096x1, .f32⟩
  | .hbm, ⟨10, _⟩ => ⟨S_, .f32⟩
  | .hbm, ⟨11, _⟩ => ⟨S2x4096x1, .f32⟩
  | .hbm, ⟨12, _⟩ => ⟨S2x4096x1, .f32⟩
  | .hbm, ⟨13, _⟩ => ⟨S2x4096x1, .f32⟩
  | .hbm, ⟨14, _⟩ => ⟨S2x4096x1024, .f32⟩
  | .hbm, ⟨15, _⟩ => ⟨S2x4096x1024, .f32⟩
  | .hbm, ⟨16, _⟩ => ⟨S1x1x1024, .f32⟩
  | .hbm, ⟨17, _⟩ => ⟨S2x4096x1024, .f32⟩
  | .hbm, ⟨18, _⟩ => ⟨S2x4096x1024, .f32⟩
  | .hbm, ⟨19, _⟩ => ⟨S2x4096x6304, .f32⟩
  | .hbm, ⟨20, _⟩ => ⟨S2x4096x512, .f32⟩
  | .hbm, ⟨21, _⟩ => ⟨S2x4096x512, .f32⟩
  | .hbm, ⟨22, _⟩ => ⟨S2x4096x512, .f32⟩
  | .hbm, ⟨23, _⟩ => ⟨S2x4096x512, .f32⟩
  | .hbm, ⟨24, _⟩ => ⟨S2x4096x256, .f32⟩
  | .hbm, ⟨25, _⟩ => ⟨S2x4096x128, .f32⟩
  | .hbm, ⟨26, _⟩ => ⟨S2x4096x32, .f32⟩
  | .hbm, ⟨27, _⟩ => ⟨S2x4096x512, .f32⟩
  | .hbm, ⟨28, _⟩ => ⟨S2x4096x128, .f32⟩
  | .hbm, ⟨29, _⟩ => ⟨S2x4096x128, .f32⟩
  | .hbm, ⟨30, _⟩ => ⟨S2x4096x3072, .f32⟩
  | .hbm, ⟨31, _⟩ => ⟨S2x4096x16, .f32⟩
  | .hbm, ⟨32, _⟩ => ⟨S2x4096x16, .f32⟩
  | .hbm, ⟨33, _⟩ => ⟨S2x4096x16, .f32⟩
  | .hbm, ⟨34, _⟩ => ⟨S2x4096x32, .f32⟩
  | .hbm, ⟨35, _⟩ => ⟨S2x4096x8x64, .f32⟩
  | .hbm, ⟨36, _⟩ => ⟨S_, .f32⟩
  | .hbm, ⟨37, _⟩ => ⟨S2x4096x8x64, .f32⟩
  | .hbm, ⟨38, _⟩ => ⟨S2x4096x8x128, .f32⟩
  | .hbm, ⟨39, _⟩ => ⟨S2x4096x1024, .f32⟩
  | .hbm, ⟨40, _⟩ => ⟨S2x4096x2x64, .f32⟩
  | .hbm, ⟨41, _⟩ => ⟨S_, .f32⟩
  | .hbm, ⟨42, _⟩ => ⟨S2x4096x2x64, .f32⟩
  | .hbm, ⟨43, _⟩ => ⟨S2x4096x2x128, .f32⟩
  | .hbm, ⟨44, _⟩ => ⟨S2x4096x256, .f32⟩
  | .hbm, ⟨45, _⟩ => ⟨S2x4096x2x64, .f32⟩
  | .hbm, ⟨46, _⟩ => ⟨S_, .f32⟩
  | .hbm, ⟨47, _⟩ => ⟨S2x4096x2x64, .f32⟩
  | .hbm, ⟨48, _⟩ => ⟨S2x4096x2x128, .f32⟩
  | .hbm, ⟨49, _⟩ => ⟨S2x4096x256, .f32⟩
  | .hbm, ⟨50, _⟩ => ⟨S_, .f32⟩
  | .hbm, ⟨51, _⟩ => ⟨S2x4096x64, .f32⟩
  | .hbm, ⟨52, _⟩ => ⟨S_, .f32⟩
  | .hbm, ⟨53, _⟩ => ⟨S2x4096x32, .f32⟩
  | .hbm, ⟨54, _⟩ => ⟨S2x4096x128, .f32⟩
  | .hbm, ⟨55, _⟩ => ⟨S_, .f32⟩
  | .hbm, ⟨56, _⟩ => ⟨S2x4096x64, .f32⟩
  | .hbm, ⟨57, _⟩ => ⟨S_, .f32⟩
  | .hbm, ⟨58, _⟩ => ⟨S2x4096x32, .f32⟩
  | .hbm, ⟨59, _⟩ => ⟨S2x4096x128, .f32⟩
  | .hbm, ⟨60, _⟩ => ⟨S2x4096x7296, .f32⟩
  | .hbm, ⟨61, _⟩ => ⟨S8192x7296, .f32⟩
  | .hbm, ⟨62, _⟩ => ⟨S8192x7296, .bf16⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_2 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst_3 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_cst_4 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst_5 : Ref sig .tc := ⟨.hbm, 50, rfl⟩
abbrev main_v41 : Ref sig .tc := ⟨.hbm, 51, rfl⟩
abbrev main_cst_6 : Ref sig .tc := ⟨.hbm, 52, rfl⟩
abbrev main_v42 : Ref sig .tc := ⟨.hbm, 53, rfl⟩
abbrev main_v43 : Ref sig .tc := ⟨.hbm, 54, rfl⟩
abbrev main_cst_7 : Ref sig .tc := ⟨.hbm, 55, rfl⟩
abbrev main_v44 : Ref sig .tc := ⟨.hbm, 56, rfl⟩
abbrev main_cst_8 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩

abbrev nD : Nat := 1
abbrev τ : Topo := Topo.v7x

variable {F : FTy → Type} [FloatOps F]
-- ==== Proof.Online.lean ====
module
public import Idealize.ShloMosaic.Lib.Pointwise
@[expose] public section

/-!
# A softmax taken over growing ranges of keys

For a row of logits `s` over the keys `0, 1, …` and values `v`, this module names the maximum, the sum of
exponentials and the weighted sum of values over the first `n` keys, all relative to that maximum. It proves how
they grow when further keys are read, that keys of logit −∞ add nothing, and that the quotient of the last two is
the usual softmax average when the logits below +∞ are not all −∞.
-/

noncomputable section

namespace Cert.Own.Online

open Idealize.ShloMosaic

/-- The largest of the first `n` logits (−∞ when `n = 0`). -/
def top (s : ℕ → EReal) (n : ℕ) : EReal := (Finset.range n).sup s

/-- The sum of powers of two of the first `n` logits, relative to their maximum. -/
def mass (s : ℕ → EReal) (n : ℕ) : EReal := ∑ k ∈ Finset.range n, Ideal.exp2 (s k - top s n)

/-- The first `n` values summed with those powers of two as weights. -/
def acc (s v : ℕ → EReal) (n : ℕ) : EReal := ∑ k ∈ Finset.range n, Ideal.exp2 (s k - top s n) * v k

theorem exp2_bot : Ideal.exp2 ⊥ = 0 := rfl
theorem exp2_top : Ideal.exp2 ⊤ = ⊤ := rfl
theorem exp2_coe (r : ℝ) : Ideal.exp2 (r : EReal) = ((2 : ℝ) ^ r : ℝ) := rfl
theorem exp_bot : Ideal.exp ⊥ = 0 := rfl
theorem exp_coe (r : ℝ) : Ideal.exp (r : EReal) = (Real.exp r : EReal) := rfl

theorem exp2_nonneg (x : EReal) : 0 ≤ Ideal.exp2 x := by
  induction x with
  | bot => exact le_rfl
  | top => exact le_top
  | coe r => rw [exp2_coe]; exact_mod_cast (Real.rpow_pos_of_pos two_pos r).le

theorem exp_nonneg (x : EReal) : 0 ≤ Ideal.exp x := by
  induction x with
  | bot => exact le_rfl
  | top => exact le_top
  | coe r => rw [exp_coe]; exact_mod_cast (Real.exp_pos r).le

/-- A step down of the reference point keeps the factor finite. -/
theorem exp2_sub_ne_top {m m' : EReal} (h : m ≤ m') : Ideal.exp2 (m - m') ≠ ⊤ := by
  induction m' with
  | bot => obtain rfl := le_bot_iff.1 h; simp [exp2_bot]
  | top => rw [EReal.sub_top]; simp [exp2_bot]
  | coe b =>
    induction m with
    | bot => rw [EReal.bot_sub]; simp [exp2_bot]
    | top => simp at h
    | coe a => rw [← EReal.coe_sub, exp2_coe]; exact EReal.coe_ne_top _

/-- Moving the reference point from `m` up to `m'` multiplies each weight by one factor. -/
theorem exp2_shift {s m m' : EReal} (h : s ≤ m) (h' : m ≤ m') :
    Ideal.exp2 (m - m') * Ideal.exp2 (s - m) = Ideal.exp2 (s - m') := by
  induction s with
  | bot => simp [exp2_bot]
  | top =>
    obtain rfl := top_le_iff.1 h
    obtain rfl := top_le_iff.1 h'
    simp [exp2_bot]
  | coe x =>
    induction m with
    | bot => simp at h
    | top =>
      obtain rfl := top_le_iff.1 h'
      simp [exp2_bot]
    | coe y =>
      induction m' with
      | bot => simp at h'
      | top => simp [exp2_bot]
      | coe z =>
        rw [← EReal.coe_sub, ← EReal.coe_sub, ← EReal.coe_sub, exp2_coe, exp2_coe, exp2_coe, ← EReal.coe_mul,
          ← Real.rpow_add two_pos]
        congr 2; ring

/-- A finite nonnegative factor moves into a sum. -/
theorem mul_sum {ι : Type*} {c : EReal} (h0 : 0 ≤ c) (h1 : c ≠ ⊤) (S : Finset ι) (f : ι → EReal) :
    c * ∑ i ∈ S, f i = ∑ i ∈ S, c * f i := by
  classical
  induction S using Finset.induction_on with
  | empty => simp
  | insert a S ha ih =>
    rw [Finset.sum_insert ha, Finset.sum_insert ha, EReal.left_distrib_of_nonneg_of_ne_top h0 h1, ih]

theorem le_top_of_lt {s : ℕ → EReal} {n k : ℕ} (h : k < n) : s k ≤ top s n :=
  Finset.le_sup (f := s) (Finset.mem_range.2 h)

theorem top_mono {s : ℕ → EReal} {n n' : ℕ} (h : n ≤ n') : top s n ≤ top s n' :=
  Finset.sup_mono (Finset.range_mono h)

/-- The maximum over `n + N` keys is that over `n` of them and that of the next `N`. -/
theorem top_add (s : ℕ → EReal) (n N : ℕ) :
    top s (n + N) = max (top s n) (Finset.univ.sup fun k : Fin N => s (n + k)) := by
  apply le_antisymm
  · refine Finset.sup_le fun k hk => ?_
    rw [Finset.mem_range] at hk
    by_cases h : k < n
    · exact le_max_of_le_left (le_top_of_lt h)
    · refine le_max_of_le_right ?_
      have := Finset.le_sup (f := fun j : Fin N => s (n + j)) (Finset.mem_univ ⟨k - n, by omega⟩)
      simpa [Nat.add_sub_cancel' (not_lt.1 h)] using this
  · refine max_le (top_mono (Nat.le_add_right _ _)) (Finset.sup_le fun k _ => le_top_of_lt (by omega))

/-- The sum of weights after `N` further keys. -/
theorem mass_add (s : ℕ → EReal) (n N : ℕ) :
    mass s (n + N) = Ideal.exp2 (top s n - top s (n + N)) * mass s n
      + ∑ k : Fin N, Ideal.exp2 (s (n + k) - top s (n + N)) := by
  have hle := top_mono (s := s) (Nat.le_add_right n N)
  unfold mass
  rw [Finset.sum_range_add, mul_sum (exp2_nonneg _) (exp2_sub_ne_top hle),
    Finset.sum_range (fun k => Ideal.exp2 (s (n + k) - top s (n + N)))]
  congr 1
  exact Finset.sum_congr rfl fun k hk => (exp2_shift (le_top_of_lt (Finset.mem_range.1 hk)) hle).symm

/-- The weighted sum of values after `N` further keys. -/
theorem acc_add (s v : ℕ → EReal) (n N : ℕ) :
    acc s v (n + N) = Ideal.exp2 (top s n - top s (n + N)) * acc s v n
      + ∑ k : Fin N, Ideal.exp2 (s (n + k) - top s (n + N)) * v (n + k) := by
  have hle := top_mono (s := s) (Nat.le_add_right n N)
  unfold acc
  rw [Finset.sum_range_add, mul_sum (exp2_nonneg _) (exp2_sub_ne_top hle),
    Finset.sum_range (fun k => Ideal.exp2 (s (n + k) - top s (n + N)) * v (n + k))]
  congr 1
  refine Finset.sum_congr rfl fun k hk => ?_
  rw [← mul_assoc, exp2_shift (le_top_of_lt (Finset.mem_range.1 hk)) hle]

/-- Keys of logit −∞ do not change the maximum. -/
theorem top_masked {s : ℕ → EReal} {n n' : ℕ} (hn : n ≤ n') (h : ∀ k, n ≤ k → k < n' → s k = ⊥) :
    top s n' = top s n := by
  refine le_antisymm (Finset.sup_le fun k hk => ?_) (top_mono hn)
  by_cases hk' : k < n
  · exact le_top_of_lt hk'
  · rw [h k (not_lt.1 hk') (Finset.mem_range.1 hk)]; exact bot_le

/-- Keys of logit −∞ do not change the sum of weights. -/
theorem mass_masked {s : ℕ → EReal} {n n' : ℕ} (hn : n ≤ n') (h : ∀ k, n ≤ k → k < n' → s k = ⊥) :
    mass s n' = mass s n := by
  unfold mass
  rw [top_masked hn h]
  refine (Finset.sum_subset (Finset.range_mono hn) fun k hk hk' => ?_).symm
  rw [h k (by simpa using hk') (Finset.mem_range.1 hk), EReal.bot_sub, exp2_bot]

/-- Keys of logit −∞ do not change the weighted sum. -/
theorem acc_masked {s : ℕ → EReal} (v : ℕ → EReal) {n n' : ℕ} (hn : n ≤ n')
    (h : ∀ k, n ≤ k → k < n' → s k = ⊥) : acc s v n' = acc s v n := by
  unfold acc
  rw [top_masked hn h]
  refine (Finset.sum_subset (Finset.range_mono hn) fun k hk hk' => ?_).symm
  rw [h k (by simpa using hk') (Finset.mem_range.1 hk), EReal.bot_sub, exp2_bot, zero_mul]

/-- The reciprocal of the natural logarithm of two. -/
def invLog2 : ℝ := (Real.log 2)⁻¹

theorem invLog2_pos : 0 < invLog2 := inv_pos.2 (Real.log_pos one_lt_two)

theorem rpow_invLog2 (x : ℝ) : (2 : ℝ) ^ (x * invLog2) = Real.exp x := by
  rw [Real.rpow_def_of_pos two_pos, invLog2, mul_comm x, ← mul_assoc,
    mul_inv_cancel₀ (Real.log_pos one_lt_two).ne', one_mul]

/-- Scaling every logit by `1 / log 2` scales the maximum. -/
theorem top_scaled (a : ℕ → EReal) (n : ℕ) :
    top (fun k => a k * (invLog2 : EReal)) n = top a n * (invLog2 : EReal) := by
  have hc : (0 : EReal) ≤ (invLog2 : EReal) := by exact_mod_cast invLog2_pos.le
  have hmono : Monotone fun x : EReal => x * (invLog2 : EReal) := fun x y h => mul_le_mul_of_nonneg_right h hc
  have hbot : (⊥ : EReal) * (invLog2 : EReal) = ⊥ := EReal.bot_mul_coe_of_pos invLog2_pos
  exact (Finset.comp_sup_eq_sup_comp_of_is_total (fun x : EReal => x * (invLog2 : EReal)) hmono hbot
    (s := Finset.range n) (f := a)).symm

/-- Logits below +∞ that are not all −∞ have a real maximum. -/
theorem top_real {a : ℕ → EReal} {n : ℕ} (h : ∀ k < n, a k ≠ ⊤) (hr : ∃ k < n, a k ≠ ⊥) :
    ∃ (A : ℝ), top a n = A ∧ ∃ k < n, a k = A := by
  obtain ⟨k0, hk0, hne⟩ := hr
  obtain ⟨k, hk, he⟩ := Finset.exists_mem_eq_sup (Finset.range n) ⟨k0, Finset.mem_range.2 hk0⟩ a
  have hk' := Finset.mem_range.1 hk
  have hb : a k ≠ ⊥ := fun hb => hne (le_bot_iff.1 (by rw [← hb, ← he]; exact le_top_of_lt hk0))
  refine ⟨(a k).toReal, ?_, k, hk', ?_⟩
  · rw [EReal.coe_toReal (h k hk') hb]; exact he
  · rw [EReal.coe_toReal (h k hk') hb]

/-- A power of two of scaled logits is an exponential. -/
theorem exp2_scaled {x : EReal} (hx : x ≠ ⊤) (A : ℝ) :
    Ideal.exp2 (x * (invLog2 : EReal) - (A : EReal) * (invLog2 : EReal)) = Ideal.exp (x - A) := by
  induction x with
  | bot => rw [EReal.bot_mul_coe_of_pos invLog2_pos, EReal.bot_sub, EReal.bot_sub, exp2_bot, exp_bot]
  | top => exact absurd rfl hx
  | coe r =>
    rw [← EReal.coe_mul, ← EReal.coe_mul, ← EReal.coe_sub, ← EReal.coe_sub, exp2_coe, exp_coe, ← sub_mul,
      rpow_invLog2]

/-- A sum of exponentials of logits at most the reference point, one of them equal to it, is a positive real. -/
theorem partition_real {a : ℕ → EReal} {n : ℕ} {A : ℝ} (hA : top a n = A) (hk : ∃ k < n, a k = A) :
    ∃ Z : ℝ, 0 < Z ∧ ∑ k ∈ Finset.range n, Ideal.exp (a k - A) = Z := by
  have hreal : ∀ k ∈ Finset.range n, Ideal.exp (a k - A) = ((Ideal.exp (a k - A)).toReal : EReal) := by
    intro k hk
    have hle : a k ≤ A := hA ▸ le_top_of_lt (Finset.mem_range.1 hk)
    generalize a k = x at hle
    induction x with
    | bot => rw [EReal.bot_sub, exp_bot]; rfl
    | top => simp at hle
    | coe r => rw [← EReal.coe_sub, exp_coe, EReal.toReal_coe]
  refine ⟨∑ k ∈ Finset.range n, (Ideal.exp (a k - A)).toReal, ?_, ?_⟩
  · obtain ⟨k, hkn, hkA⟩ := hk
    refine Finset.sum_pos' (fun j _ => EReal.toReal_nonneg (exp_nonneg _)) ⟨k, Finset.mem_range.2 hkn, ?_⟩
    rw [hkA, ← EReal.coe_sub, sub_self, exp_coe, EReal.toReal_coe]
    exact Real.exp_pos 0
  · rw [Finset.sum_congr rfl hreal]
    induction Finset.range n using Finset.induction_on with
    | empty => simp
    | insert j S hj ih => rw [Finset.sum_insert hj, Finset.sum_insert hj, EReal.coe_add, ih]

theorem div_of_pos {Z : ℝ} (hZ : 0 < Z) (x : EReal) : Ideal.div x (Z : EReal) = ((Z⁻¹ : ℝ) : EReal) * x := by
  rw [Ideal.div_coe hZ.ne', one_div, mul_comm]

/-- The quotient of the weighted sum by the sum of weights, in powers of two of logits scaled by `1 / log 2`, is
    the softmax average of the values in exponentials of the logits. -/
theorem quotient_eq {a : ℕ → EReal} (v : ℕ → EReal) {n : ℕ} (h : ∀ k < n, a k ≠ ⊤) (hr : ∃ k < n, a k ≠ ⊥) :
    Ideal.div (acc (fun k => a k * (invLog2 : EReal)) v n) (mass (fun k => a k * (invLog2 : EReal)) n)
      = ∑ k ∈ Finset.range n,
          Ideal.div (Ideal.exp (a k - top a n)) (∑ j ∈ Finset.range n, Ideal.exp (a j - top a n)) * v k := by
  obtain ⟨A, hA, hk⟩ := top_real h hr
  obtain ⟨Z, hZ, hsum⟩ := partition_real hA hk
  have hw : ∀ k ∈ Finset.range n, Ideal.exp2 (a k * (invLog2 : EReal) - top (fun k => a k * (invLog2 : EReal)) n)
      = Ideal.exp (a k - A) := by
    intro k hk
    rw [top_scaled, hA, exp2_scaled (h k (Finset.mem_range.1 hk))]
  unfold acc mass
  rw [Finset.sum_congr rfl hw, hsum, hA, hsum, div_of_pos hZ,
    Finset.sum_congr rfl (fun k hk => congrArg (· * v k) (hw k hk)),
    mul_sum (by exact_mod_cast (inv_pos.2 hZ).le) (EReal.coe_ne_top _)]
  refine Finset.sum_congr rfl fun k _ => ?_
  rw [div_of_pos hZ, mul_assoc]

end Cert.Own.Online

end
-- ==== Proof.Steps.lean ====
module
public import proofs.«01_k».proof.Proof.Gen.AttnIdeal.Skeleton
public import proofs.«01_k».proof.Proof.Online
public import Idealize.ShloMosaic.Lib.WordCmp
@[expose] public section

/-!
# One step of a chain, read at an index

The kernel's four chains (two heads, two halves of the query block) update a running maximum, a running sum of
weights and a running weighted sum of values by the same operations, over 1024 or 512 keys at a time. This module
names those operations once and reads each of them at an index.
-/

set_option maxRecDepth 16384

noncomputable section

namespace Cert.Own.Steps

open Idealize.ShloMosaic Cert.AttnIdeal Cert.AttnIdeal.Gen

/-- The mask of the kernel is −∞. -/
theorem mask_eq : (Named.named (F := Ideal) (φ := .f32) κ "mask" 0xF149F2CA#32 : EReal) = ⊥ :=
  IdealRules.named_const.ideal_named_scalar _ _ _ _ rfl

/-- The logits of 512 queries against 1024 keys. -/
def logitsL (q : FVec Ideal S512x128 .bf16) (k : FVec Ideal S1024x128 .bf16) : FVec Ideal S512x1024 .f32 :=
  matmul dot_S512x128_S1024x128_S512x1024_1_1_0_0_n_n none q k (constant S512x1024 .f32 0x00000000#32)

/-- The running maximum after 1024 keys. -/
def maxL (s : FVec Ideal S512x1024 .f32) (m : FVec Ideal S512x1 .f32) : FVec Ideal S512x1 .f32 :=
  maximumf m (shapeCast S512x1 (multiReduction .maximumf [1] S512 s 0xFF800000#32 reduces_S512x1024_S512 (.inl rfl) rfl) shapeCasts_S512_S512x1)

/-- The weights of 1024 keys relative to a maximum. -/
def wtsL (s : FVec Ideal S512x1024 .f32) (m' : FVec Ideal S512x1 .f32) : FVec Ideal S512x1024 .f32 :=
  exp2 (subf s (broadcastTo S512x1024 m' broadcasts_S512x1_S512x1024))

/-- The running sum of weights after 1024 keys. -/
def sumL (s : FVec Ideal S512x1024 .f32) (m m' l : FVec Ideal S512x1 .f32) : FVec Ideal S512x1 .f32 :=
  addf (mulf (exp2 (subf m m')) l)
    (shapeCast S512x1 (multiReduction .add [1] S512 (wtsL s m') 0x00000000#32 reduces_S512x1024_S512 (.inl rfl) rfl) shapeCasts_S512_S512x1)

/-- The running weighted sum after 1024 keys. -/
def accL (s : FVec Ideal S512x1024 .f32) (m m' : FVec Ideal S512x1 .f32) (a : FVec Ideal S512x128 .f32)
    (v : FVec Ideal S1024x128 .bf16) : FVec Ideal S512x128 .f32 :=
  addf (mulf (broadcastTo S512x128 (exp2 (subf m m')) broadcasts_S512x1_S512x128) a)
    (matmul dot_S512x1024_S1024x128_S512x128_1_0_0_1_n_n none (truncf .bf16 (wtsL s m') bitsLt_bf16_f32) v (constant S512x128 .f32 0x00000000#32))

/-- The logits of 512 queries against 512 keys. -/
def logitsS (q k : FVec Ideal S512x128 .bf16) : FVec Ideal S512x512 .f32 :=
  matmul dot_S512x128_S512x128_S512x512_1_1_0_0_n_n none q k (constant S512x512 .f32 0x00000000#32)

/-- The running maximum after 512 keys. -/
def maxS (s : FVec Ideal S512x512 .f32) (m : FVec Ideal S512x1 .f32) : FVec Ideal S512x1 .f32 :=
  maximumf m (shapeCast S512x1 (multiReduction .maximumf [1] S512 s 0xFF800000#32 reduces_S512x512_S512 (.inl rfl) rfl) shapeCasts_S512_S512x1)

/-- The weights of 512 keys relative to a maximum. -/
def wtsS (s : FVec Ideal S512x512 .f32) (m' : FVec Ideal S512x1 .f32) : FVec Ideal S512x512 .f32 :=
  exp2 (subf s (broadcastTo S512x512 m' broadcasts_S512x1_S512x512))

/-- The running sum of weights after 512 keys. -/
def sumS (s : FVec Ideal S512x512 .f32) (m m' l : FVec Ideal S512x1 .f32) : FVec Ideal S512x1 .f32 :=
  addf (mulf (exp2 (subf m m')) l)
    (shapeCast S512x1 (multiReduction .add [1] S512 (wtsS s m') 0x00000000#32 reduces_S512x512_S512 (.inl rfl) rfl) shapeCasts_S512_S512x1)

/-- The running weighted sum after 512 keys. -/
def accS (s : FVec Ideal S512x512 .f32) (m m' : FVec Ideal S512x1 .f32) (a : FVec Ideal S512x128 .f32)
    (v : FVec Ideal S512x128 .bf16) : FVec Ideal S512x128 .f32 :=
  addf (mulf (broadcastTo S512x128 (exp2 (subf m m')) broadcasts_S512x1_S512x128) a)
    (matmul dot_S512x512_S512x128_S512x128_1_0_0_1_n_n none (truncf .bf16 (wtsS s m') bitsLt_bf16_f32) v (constant S512x128 .f32 0x00000000#32))

/-- The causal mask of the upper half of a query block against the first 512 keys of its diagonal block. -/
def causalS (s : FVec Ideal S512x512 .f32) : FVec Ideal S512x512 .f32 :=
  select (cmpi .sle (iota .tc S512x512 32 [1] iota_S512x512_d1_w32)
      (addi (broadcast S512x512 0#32) (iota .tc S512x512 32 [0] iota_S512x512_d0_w32))) s
    (broadcast S512x512 (Named.named (F := Ideal) κ "mask" 0xF149F2CA#32))

/-- The causal mask of the lower half of a query block against its whole diagonal block. -/
def causalL (s : FVec Ideal S512x1024 .f32) : FVec Ideal S512x1024 .f32 :=
  select (cmpi .sle (iota .tc S512x1024 32 [1] iota_S512x1024_d1_w32)
      (addi (broadcast S512x1024 512#32) (iota .tc S512x1024 32 [0] iota_S512x1024_d0_w32))) s
    (broadcast S512x1024 (Named.named (F := Ideal) κ "mask" 0xF149F2CA#32))

/-- The stored half block: both heads' weighted sums over their sums of weights, side by side. -/
def pack (l0 : FVec Ideal S512x1 .f32) (a0 : FVec Ideal S512x128 .f32) (l1 : FVec Ideal S512x1 .f32)
    (a1 : FVec Ideal S512x128 .f32) : FVec Ideal S512x128 .bf16 :=
  truncf .bf16 (concatenate S512x128 1
    [⟨S512x64, extractStridedSlice S512x64 ![0, 0] (divf a0 (broadcastTo S512x128 l0 broadcasts_S512x1_S512x128)) slices_S512x128_o0_0_S512x64⟩,
     ⟨S512x64, extractStridedSlice S512x64 ![0, 0] (divf a1 (broadcastTo S512x128 l1 broadcasts_S512x1_S512x128)) slices_S512x128_o0_0_S512x64⟩]
    concatenates_S512x64_S512x64_S512x128_d1) bitsLt_bf16_f32

/-- A fold of maxima from −∞ is a supremum. -/
theorem fold_max {n : ℕ} (f : Fin n → EReal) :
    Finset.univ.fold max (Ideal.ofBits .f32 0xFF800000#32) f = Finset.univ.sup f := by
  have h : (Ideal.ofBits .f32 0xFF800000#32 : EReal) = ⊥ := by simp [Ideal.ofBits, Ideal.ieee]
  rw [h]; rfl

/-- A choice by a comparison of two small numbers held in words. -/
theorem select_sle (a b c : ℕ) (ha : a < 2048) (hb : b < 2048) (hc : c < 2048) (x y : EReal) :
    Scalar.select (IntOp.cmpi .sle (BitVec.ofNat 32 a) (IntOp.addi (BitVec.ofNat 32 c) (BitVec.ofNat 32 b))) x y
      = if a ≤ c + b then x else y := by
  rw [show IntOp.addi (BitVec.ofNat 32 c) (BitVec.ofNat 32 b) = BitVec.ofNat 32 (c + b) from WordCmp.addi_ofNat c b]
  by_cases h : a ≤ c + b
  · rw [if_pos h, WordCmp.select_of_eq_one ((WordCmp.cmpi_sle_ofNat_eq_one_iff (by norm_num; omega) (by norm_num; omega)).2 h)]
  · rw [if_neg h, WordCmp.select_of_eq_zero ((WordCmp.cmpi_sle_ofNat_eq_zero_iff (by norm_num; omega) (by norm_num; omega)).2 h)]

theorem logitsL_apply (q : FVec Ideal S512x128 .bf16) (k : FVec Ideal S1024x128 .bf16) (r : Fin 512) (j : Fin 1024) :
    logitsL q k (ix2 r j) = ∑ d : Fin 128, q (ix2 r d) * k (ix2 j d) := by
  pointwise [logitsL]

theorem maxL_apply (s : FVec Ideal S512x1024 .f32) (m : FVec Ideal S512x1 .f32) (r : Fin 512) :
    maxL s m (ix2 r 0) = max (m (ix2 r 0)) (Finset.univ.sup fun k : Fin 1024 => s (ix2 r k)) := by
  pointwise [maxL]
  exact congrArg (max _) (fold_max _)

theorem sumL_apply (s : FVec Ideal S512x1024 .f32) (m m' l : FVec Ideal S512x1 .f32) (r : Fin 512) :
    sumL s m m' l (ix2 r 0) = Ideal.exp2 (m (ix2 r 0) - m' (ix2 r 0)) * l (ix2 r 0)
      + ∑ k : Fin 1024, Ideal.exp2 (s (ix2 r k) - m' (ix2 r 0)) := by
  pointwise [sumL, wtsL]
  rfl

theorem accL_apply (s : FVec Ideal S512x1024 .f32) (m m' : FVec Ideal S512x1 .f32) (a : FVec Ideal S512x128 .f32)
    (v : FVec Ideal S1024x128 .bf16) (r : Fin 512) (d : Fin 128) :
    accL s m m' a v (ix2 r d) = Ideal.exp2 (m (ix2 r 0) - m' (ix2 r 0)) * a (ix2 r d)
      + ∑ k : Fin 1024, Ideal.exp2 (s (ix2 r k) - m' (ix2 r 0)) * v (ix2 k d) := by
  pointwise [accL, wtsL]
  rfl

theorem logitsS_apply (q : FVec Ideal S512x128 .bf16) (k : FVec Ideal S512x128 .bf16) (r : Fin 512) (j : Fin 512) :
    logitsS q k (ix2 r j) = ∑ d : Fin 128, q (ix2 r d) * k (ix2 j d) := by
  pointwise [logitsS]

theorem maxS_apply (s : FVec Ideal S512x512 .f32) (m : FVec Ideal S512x1 .f32) (r : Fin 512) :
    maxS s m (ix2 r 0) = max (m (ix2 r 0)) (Finset.univ.sup fun k : Fin 512 => s (ix2 r k)) := by
  pointwise [maxS]
  exact congrArg (max _) (fold_max _)

theorem sumS_apply (s : FVec Ideal S512x512 .f32) (m m' l : FVec Ideal S512x1 .f32) (r : Fin 512) :
    sumS s m m' l (ix2 r 0) = Ideal.exp2 (m (ix2 r 0) - m' (ix2 r 0)) * l (ix2 r 0)
      + ∑ k : Fin 512, Ideal.exp2 (s (ix2 r k) - m' (ix2 r 0)) := by
  pointwise [sumS, wtsS]
  rfl

theorem accS_apply (s : FVec Ideal S512x512 .f32) (m m' : FVec Ideal S512x1 .f32) (a : FVec Ideal S512x128 .f32)
    (v : FVec Ideal S512x128 .bf16) (r : Fin 512) (d : Fin 128) :
    accS s m m' a v (ix2 r d) = Ideal.exp2 (m (ix2 r 0) - m' (ix2 r 0)) * a (ix2 r d)
      + ∑ k : Fin 512, Ideal.exp2 (s (ix2 r k) - m' (ix2 r 0)) * v (ix2 k d) := by
  pointwise [accS, wtsS]
  rfl

theorem causalS_apply (s : FVec Ideal S512x512 .f32) (r : Fin 512) (j : Fin 512) :
    causalS s (ix2 r j) = if j.val ≤ r.val then s (ix2 r j) else ⊥ := by
  pointwise [causalS]
  rw [mask_eq, select_sle _ _ 0 (by omega) (by omega) (by omega), Nat.zero_add]

theorem causalL_apply (s : FVec Ideal S512x1024 .f32) (r : Fin 512) (j : Fin 1024) :
    causalL s (ix2 r j) = if j.val ≤ 512 + r.val then s (ix2 r j) else ⊥ := by
  pointwise [causalL]
  rw [mask_eq, select_sle _ _ 512 (by omega) (by omega) (by omega)]

theorem pack_apply (l0 : FVec Ideal S512x1 .f32) (a0 : FVec Ideal S512x128 .f32) (l1 : FVec Ideal S512x1 .f32)
    (a1 : FVec Ideal S512x128 .f32) (r : Fin 512) (e : Fin 128) :
    pack l0 a0 l1 a1 (ix2 r e) = if h : e.val < 64 then Ideal.div (a0 (ix2 r e)) (l0 (ix2 r 0))
      else Ideal.div (a1 (ix2 r ⟨e.val - 64, by omega⟩)) (l1 (ix2 r 0)) := by
  pointwise [pack]

end Cert.Own.Steps

end
-- ==== Proof.Chain.lean ====
module
public import proofs.«01_k».proof.Proof.Steps
@[expose] public section

/-!
# One chain of the online softmax

A chain holds a running maximum, a running sum of weights and a running weighted sum for 512 queries. `Inv` says
that they are those of the first `n` keys; each step of the kernel, over 1024 keys or over the keys of a diagonal
block, moves the invariant on.
-/

noncomputable section

namespace Cert.Own.Chain

open Idealize.ShloMosaic Cert.AttnIdeal Cert.Own.Online Cert.Own.Steps

/-- What a chain carries: the maximum, the sum of weights, the weighted sum of values. -/
abbrev St : Type := FVec Ideal S512x1 .f32 × FVec Ideal S512x1 .f32 × FVec Ideal S512x128 .f32

/-- The chain's state after the first `n` keys, of logits `S` and values `V`. -/
def Inv (S : Fin 512 → ℕ → EReal) (V : Fin 128 → ℕ → EReal) (n : ℕ) (C : St) : Prop :=
  ∀ r : Fin 512, C.1 (ix2 r 0) = top (S r) n ∧ C.2.1 (ix2 r 0) = mass (S r) n
    ∧ ∀ d : Fin 128, C.2.2 (ix2 r d) = acc (S r) (V d) n

/-- A step over 1024 keys whose logits are `s`. -/
def stepL (s : FVec Ideal S512x1024 .f32) (v : FVec Ideal S1024x128 .bf16) (C : St) : St :=
  (maxL s C.1, sumL s C.1 (maxL s C.1) C.2.1, accL s C.1 (maxL s C.1) C.2.2 v)

/-- A step over 512 keys whose logits are `s`. -/
def stepS (s : FVec Ideal S512x512 .f32) (v : FVec Ideal S512x128 .bf16) (C : St) : St :=
  (maxS s C.1, sumS s C.1 (maxS s C.1) C.2.1, accS s C.1 (maxS s C.1) C.2.2 v)

variable {S : Fin 512 → ℕ → EReal} {V : Fin 128 → ℕ → EReal} {n : ℕ} {C : St}

theorem Inv.stepL (h : Inv S V n C) {s : FVec Ideal S512x1024 .f32} {v : FVec Ideal S1024x128 .bf16}
    (hs : ∀ r j, s (ix2 r j) = S r (n + j.val)) (hv : ∀ j d, v (ix2 j d) = V d (n + j.val)) :
    Inv S V (n + 1024) (stepL s v C) := by
  intro r
  obtain ⟨h1, h2, h3⟩ := h r
  have hm : maxL s C.1 (ix2 r 0) = top (S r) (n + 1024) := by
    rw [maxL_apply, h1, top_add]
    simp only [hs]
  refine ⟨hm, ?_, fun d => ?_⟩
  · show sumL s C.1 (maxL s C.1) C.2.1 (ix2 r 0) = _
    rw [sumL_apply, hm, h1, h2, mass_add]
    simp only [hs]
  · show accL s C.1 (maxL s C.1) C.2.2 v (ix2 r d) = _
    rw [accL_apply, hm, h1, h3, acc_add]
    simp only [hs, hv]

theorem Inv.stepS (h : Inv S V n C) {s : FVec Ideal S512x512 .f32} {v : FVec Ideal S512x128 .bf16}
    (hs : ∀ r j, s (ix2 r j) = S r (n + j.val)) (hv : ∀ j d, v (ix2 j d) = V d (n + j.val)) :
    Inv S V (n + 512) (stepS s v C) := by
  intro r
  obtain ⟨h1, h2, h3⟩ := h r
  have hm : maxS s C.1 (ix2 r 0) = top (S r) (n + 512) := by
    rw [maxS_apply, h1, top_add]
    simp only [hs]
  refine ⟨hm, ?_, fun d => ?_⟩
  · show sumS s C.1 (maxS s C.1) C.2.1 (ix2 r 0) = _
    rw [sumS_apply, hm, h1, h2, mass_add]
    simp only [hs]
  · show accS s C.1 (maxS s C.1) C.2.2 v (ix2 r d) = _
    rw [accS_apply, hm, h1, h3, acc_add]
    simp only [hs, hv]

end Cert.Own.Chain

end
-- ==== Proof.Trip.lean ====
module
public import proofs.«01_k».proof.Proof.Gen.AttnIdeal.Value
public import proofs.«01_k».proof.Proof.Chain
@[expose] public section

/-!
# A grid point's four chains

The body of the attention kernel at one grid point, written with the chains' steps: what a trip of its loop does to
the four chains, and what it stores after the diagonal step.
-/

set_option maxRecDepth 16384

noncomputable section

namespace Cert.Own.Trip

open Idealize.ShloMosaic Idealize.ShloMosaic.TcCoe Idealize.ShloMosaic.Tactic
open Cert.AttnIdeal Cert.AttnIdeal.Gen Cert.Own.Steps Cert.Own.Chain

/-- The four chains: both halves of the queries for head 0, then for head 1. -/
abbrev T12 : Type :=
  FVec Ideal S512x1 .f32 × FVec Ideal S512x1 .f32 × FVec Ideal S512x128 .f32 × FVec Ideal S512x1 .f32 × FVec Ideal S512x1 .f32 × FVec Ideal S512x128 .f32
  × FVec Ideal S512x1 .f32 × FVec Ideal S512x1 .f32 × FVec Ideal S512x128 .f32 × FVec Ideal S512x1 .f32 × FVec Ideal S512x1 .f32 × FVec Ideal S512x128 .f32

def cA (T : T12) : St := (T.1, T.2.1, T.2.2.1)
def cB (T : T12) : St := (T.2.2.2.1, T.2.2.2.2.1, T.2.2.2.2.2.1)
def cC (T : T12) : St := (T.2.2.2.2.2.2.1, T.2.2.2.2.2.2.2.1, T.2.2.2.2.2.2.2.2.1)
def cD (T : T12) : St := (T.2.2.2.2.2.2.2.2.2.1, T.2.2.2.2.2.2.2.2.2.2.1, T.2.2.2.2.2.2.2.2.2.2.2)

/-- The four chains as the tuple that the loop carries. -/
def join (A B C D : St) : T12 := (A.1, A.2.1, A.2.2, B.1, B.2.1, B.2.2, C.1, C.2.1, C.2.2, D.1, D.2.1, D.2.2)

/-- 1024 rows and one head's 128 columns of a block of keys or values. -/
def rowsL (X : Vec Ideal S4096x256 .bf16) (off : Fin 2 → ℕ) (h : ∀ a, off a + S1024x128.size a ≤ S4096x256.size a) :
    FVec Ideal S1024x128 .bf16 :=
  shapeCast S1024x128 (View.ld X (Rect.unit (s := S4096x256) off S1024x128.size h)) shapeCasts_S1024x128_S1024x128

/-- 512 rows and one head's 128 columns of a block of keys or values. -/
def rowsS (X : Vec Ideal S4096x256 .bf16) (off : Fin 2 → ℕ) (h : ∀ a, off a + S512x128.size a ≤ S4096x256.size a) :
    FVec Ideal S512x128 .bf16 :=
  shapeCast S512x128 (View.ld X (Rect.unit (s := S4096x256) off S512x128.size h)) shapeCasts_S512x128_S512x128

/-- 512 queries of one head, scaled. -/
def query (X : Vec Ideal S1024x256 .bf16) (off : Fin 2 → ℕ) (h : ∀ a, off a + S512x128.size a ≤ S1024x256.size a) :
    FVec Ideal S512x128 .bf16 :=
  truncf .bf16 (mulf (extf .f32 (shapeCast S512x128 (View.ld X (Rect.unit (s := S1024x256) off S512x128.size h))
    shapeCasts_S512x128_S512x128) bitsLt_bf16_f32) (broadcast S512x128 (Named.named (F := Ideal) κ "scale2" 0x3E16C740#32))) bitsLt_bf16_f32

/-- One trip of the loop: every chain takes the trip's 1024 keys of its head. -/
theorem trip_eq (𝒱 : Variants) (c : Dev nD) (bd : Option 𝒱.V) (t : Fin cfg0.N) (w : BitVec 32)
    (qA qB qC qD : FVec Ideal S512x128 .bf16) (x1 x2 : FVec Ideal S512x1 .f32) (x3 : FVec Ideal S512x128 .f32)
    (x4 x5 : FVec Ideal S512x1 .f32) (x6 : FVec Ideal S512x128 .f32) (x7 x8 : FVec Ideal S512x1 .f32) (x9 : FVec Ideal S512x128 .f32)
    (x10 : FVec Ideal S512x1 .f32) (z : Ideal .f32)
    (X4 X5 : Vec Ideal S4096x256 .bf16) (k : Fin (k0_t1_loop (grid0.coords t)).trips) (T : T12) :
    tripR_k0_t1 (F := Ideal) 𝒱 c bd (grid0.coords t) (ms0_0 t) (hs0_0 t) (ms0_1 t) (hs0_1 t) (ms0_2 t) (hs0_2 t) (ms0_3 t) (hs0_3 t)
        w qA qB qC qD x1 x2 x3 x4 x5 x6 x7 x8 x9 x10 z ((hs0_1 t).unread X4) ((hs0_2 t).unread X5) k T
      = join
          (stepL (logitsL qA (rowsL X4 (k0_off1 (grid0.coords t) k) (k0_off1_inb _ k))) (rowsL X5 (k0_off1 (grid0.coords t) k) (k0_off1_inb _ k)) (cA T))
          (stepL (logitsL qB (rowsL X4 (k0_off1 (grid0.coords t) k) (k0_off1_inb _ k))) (rowsL X5 (k0_off1 (grid0.coords t) k) (k0_off1_inb _ k)) (cB T))
          (stepL (logitsL qC (rowsL X4 (k0_off2 (grid0.coords t) k) (k0_off2_inb _ k))) (rowsL X5 (k0_off2 (grid0.coords t) k) (k0_off2_inb _ k)) (cC T))
          (stepL (logitsL qD (rowsL X4 (k0_off2 (grid0.coords t) k) (k0_off2_inb _ k))) (rowsL X5 (k0_off2 (grid0.coords t) k) (k0_off2_inb _ k)) (cD T)) := by
  unfold tripR_k0_t1 trip_k0_t1
  dsimp only
  sl_unfold_words
  simp only [View.readAt_eq_ld, (hs0_0 t).read_unread, (hs0_1 t).read_unread, (hs0_2 t).read_unread]
  rfl

/-- The lower half's payload, with chains B and D's diagonal step. -/
theorem lower_eq (q q' : FVec Ideal S512x128 .bf16) (k v k' v' : Vec Ideal S1024x128 .bf16) (C C' : St) :
    k0_pay2 (F := Ideal) (k0_pay86 q C.1 C.2.1 (k0_pay81 k)) (k0_pay87 q C.1 C.2.2 (k0_pay81 k) v) (k0_pay96 q' C'.1 C'.2.1 k') (k0_pay97 q' C'.1 C'.2.2 k' v')
      = pack (stepL (causalL (logitsL q (shapeCast S1024x128 k shapeCasts_S1024x128_S1024x128))) (shapeCast S1024x128 v shapeCasts_S1024x128_S1024x128) C).2.1
          (stepL (causalL (logitsL q (shapeCast S1024x128 k shapeCasts_S1024x128_S1024x128))) (shapeCast S1024x128 v shapeCasts_S1024x128_S1024x128) C).2.2
          (stepL (causalL (logitsL q' (shapeCast S1024x128 k' shapeCasts_S1024x128_S1024x128))) (shapeCast S1024x128 v' shapeCasts_S1024x128_S1024x128) C').2.1
          (stepL (causalL (logitsL q' (shapeCast S1024x128 k' shapeCasts_S1024x128_S1024x128))) (shapeCast S1024x128 v' shapeCasts_S1024x128_S1024x128) C').2.2 :=
  rfl

/-- The upper half's payload, with chains A and C's diagonal step. -/
theorem upper_eq (q q' : FVec Ideal S512x128 .bf16) (k v k' v' : Vec Ideal S512x128 .bf16) (C C' : St) :
    k0_pay1 (F := Ideal) (k0_pay98 C'.2.1 C'.2.2 (k0_pay79 q C.1 C.2.1 k) (k0_pay80 q C.1 C.2.2 k v) (k0_pay88 v') (k0_pay89 q' k') (k0_pay90 q' C'.1 k') (k0_pay91 q' C'.1 k'))
      = pack (stepS (causalS (logitsS q (shapeCast S512x128 k shapeCasts_S512x128_S512x128))) (shapeCast S512x128 v shapeCasts_S512x128_S512x128) C).2.1
          (stepS (causalS (logitsS q (shapeCast S512x128 k shapeCasts_S512x128_S512x128))) (shapeCast S512x128 v shapeCasts_S512x128_S512x128) C).2.2
          (stepS (causalS (logitsS q' (shapeCast S512x128 k' shapeCasts_S512x128_S512x128))) (shapeCast S512x128 v' shapeCasts_S512x128_S512x128) C').2.1
          (stepS (causalS (logitsS q' (shapeCast S512x128 k' shapeCasts_S512x128_S512x128))) (shapeCast S512x128 v' shapeCasts_S512x128_S512x128) C').2.2 :=
  rfl

variable (m : (ℓ : Loc nD τ sig) → Buf (Elt Ideal) ℓ)

/-- The scaled queries of the four chains at a grid point. -/
def qA (c : Dev nD) (t : Fin cfg0.N) := query (iblk m c 0 t) ![0, 0] inb_S1024x256_S512x128_0_0
def qB (c : Dev nD) (t : Fin cfg0.N) := query (iblk m c 0 t) ![512, 0] inb_S1024x256_S512x128_512_0
def qC (c : Dev nD) (t : Fin cfg0.N) := query (iblk m c 0 t) ![0, 128] inb_S1024x256_S512x128_0_128
def qD (c : Dev nD) (t : Fin cfg0.N) := query (iblk m c 0 t) ![512, 128] inb_S1024x256_S512x128_512_128

/-- The chains before the first trip. -/
def start : T12 :=
  (k0_pay61, k0_pay62, k0_pay63, k0_pay64, k0_pay65, k0_pay66, k0_pay67, k0_pay68, k0_pay69, k0_pay70, k0_pay71 (FloatOps.ofBits FTy.f32 0#32), k0_pay72)

/-- The chains before trip `k` of a grid point's loop. -/
def carried (c : Dev nD) (t : Fin cfg0.N) (k : ℕ) : T12 :=
  st_k0_t1 (F := Ideal) Variants.none c none (grid0.coords t) (ms0_0 t) (hs0_0 t) (ms0_1 t) (hs0_1 t) (ms0_2 t) (hs0_2 t) (ms0_3 t) (hs0_3 t)
    (BitVec.ofNat 32 (grid0.coords t 2).val) (qA m c t) (qB m c t) (qC m c t) (qD m c t)
    k0_pay61 k0_pay62 k0_pay63 k0_pay64 k0_pay65 k0_pay66 k0_pay67 k0_pay68 k0_pay69 k0_pay70 (FloatOps.ofBits FTy.f32 0#32)
    ((hs0_1 t).unread (iblk m c 1 t)) ((hs0_2 t).unread (iblk m c 2 t)) start k

/-- The chains after the loop. -/
def looped (c : Dev nD) (t : Fin cfg0.N) : T12 := carried m c t (k0_t1_loop (grid0.coords t)).trips

/-- The chains after the diagonal step. -/
def lastA (c : Dev nD) (t : Fin cfg0.N) : St :=
  stepS (causalS (logitsS (qA m c t) (rowsS (iblk m c 1 t) (k0_off5 (grid0.coords t)) (k0_off5_inb _)))) (rowsS (iblk m c 2 t) (k0_off5 (grid0.coords t)) (k0_off5_inb _)) (cA (looped m c t))
def lastB (c : Dev nD) (t : Fin cfg0.N) : St :=
  stepL (causalL (logitsL (qB m c t) (rowsL (iblk m c 1 t) (k0_off6 (grid0.coords t)) (k0_off6_inb _)))) (rowsL (iblk m c 2 t) (k0_off6 (grid0.coords t)) (k0_off6_inb _)) (cB (looped m c t))
def lastC (c : Dev nD) (t : Fin cfg0.N) : St :=
  stepS (causalS (logitsS (qC m c t) (rowsS (iblk m c 1 t) (k0_off7 (grid0.coords t)) (k0_off7_inb _)))) (rowsS (iblk m c 2 t) (k0_off7 (grid0.coords t)) (k0_off7_inb _)) (cC (looped m c t))
def lastD (c : Dev nD) (t : Fin cfg0.N) : St :=
  stepL (causalL (logitsL (qD m c t) (rowsL (iblk m c 1 t) (k0_off8 (grid0.coords t)) (k0_off8_inb _)))) (rowsL (iblk m c 2 t) (k0_off8 (grid0.coords t)) (k0_off8_inb _)) (cD (looped m c t))

/-- The loop that takes up what the first leaves of the query block's index has nothing left to do. -/
theorem rest_trips (i : grid0.Coords) : (k0_t2_loop i).trips = 0 := by
  have h : ∀ x : Fin 4, (Scf.trips (Scalar.addi 0#32 (Scalar.muli (Scalar.divsi (Scalar.subi (BitVec.ofNat 32 x.val) 0#32) 1#32) 1#32))
      (Scalar.addi 0#32 (Scalar.subi (BitVec.ofNat 32 x.val) 0#32)) 1#32) = 0 := by decide +kernel
  exact h (i 2)

/-- What a grid point stores: the lower half of its block, over the upper half. -/
theorem outs_eq (c : Dev nD) (t : Fin cfg0.N) :
    outsAt0 m c t = View.canon
      [⟨Rect.unit ![512, 0] ![512, 128] inb_S1024x128_S512x128_512_0, pack (lastB m c t).2.1 (lastB m c t).2.2 (lastD m c t).2.1 (lastD m c t).2.2⟩,
       ⟨Rect.unit ![0, 0] ![512, 128] inb_S1024x128_S512x128_0_0, pack (lastA m c t).2.1 (lastA m c t).2.2 (lastC m c t).2.1 (lastC m c t).2.2⟩] := by
  unfold outsAt0 out0_A_3
  rw [View.read_writes_eq_canon _ _ _ (cover0_A_3 c _ _ _ _ _ _ _ _ _ _ _ _)]
  unfold kernelRun0_A
  dsimp only
  sl_unfold_words
  simp only [View.readAt_eq_ld, (hs0_0 t).read_unread, (hs0_1 t).read_unread, (hs0_2 t).read_unread]
  generalize hT : st_k0_t1 (F := Ideal) _ _ _ _ _ _ _ _ _ _ _ _ _ _ _ _ _ _ _ _ _ _ _ _ _ _ _ _ _ _ _ _ = T
  have hL : looped m c t = T := hT
  unfold lastA lastB lastC lastD
  rw [hL]
  clear hT hL
  have h0 := rest_trips (grid0.coords t)
  dsimp only [k0_t2_loop, Scf.Loop.trips] at h0
  rw [h0]
  rw [st_k0_t2_zero]
  have e1 : ∀ (p p' : FVec Ideal S512x128 .bf16) (q q' : FVec Ideal S512x128 .bf16), p = p' → q = q' →
      View.canon [(⟨Rect.unit ![512, 0] ![512, 128] inb_S1024x128_S512x128_512_0, p⟩ : View.Piece (Elt Ideal) S1024x128 .bf16), ⟨Rect.unit ![0, 0] ![512, 128] inb_S1024x128_S512x128_0_0, q⟩]
        = View.canon [(⟨Rect.unit ![512, 0] ![512, 128] inb_S1024x128_S512x128_512_0, p'⟩ : View.Piece (Elt Ideal) S1024x128 .bf16), ⟨Rect.unit ![0, 0] ![512, 128] inb_S1024x128_S512x128_0_0, q'⟩] := by
    intro p p' q q' hp hq; rw [hp, hq]
  refine e1 _ _ _ _ ?_ ?_
  · exact lower_eq _ _ _ _ _ _ (cB T) (cD T)
  · exact upper_eq _ _ _ _ _ _ (cA T) (cC T)

end Cert.Own.Trip

end
-- ==== Proof.Block.lean ====
module
public import proofs.«01_k».proof.Proof.Trip
@[expose] public section

/-!
# What a grid point stores, at an index

Every entry of a grid point's block is a quotient: the weighted sum of the values over the sum of the weights, over
all 4096 keys, where the keys after the query have the logit −∞.
-/

set_option maxRecDepth 16384

noncomputable section

namespace Cert.Own.Block

open Idealize.ShloMosaic Idealize.ShloMosaic.TcCoe Idealize.ShloMosaic.Tactic
open Cert.AttnIdeal Cert.AttnIdeal.Gen Cert.Own.Online Cert.Own.Steps Cert.Own.Chain Cert.Own.Trip

/-- The factor on the queries: the reference's scale over log 2. -/
def scale2 : EReal := ((3424635 / 33554432 * (Real.log 2)⁻¹ : ℝ) : EReal)

/-- Row `k` (of a sequence of keys or values), column `d` of head `hh` of a pair. -/
def row (X : Vec Ideal S4096x256 .bf16) (hh : Fin 2) (k : ℕ) (d : Fin 128) : EReal :=
  X (ix2 ⟨k % 4096, Nat.mod_lt _ (by norm_num)⟩ ⟨128 * hh.val + d.val, by omega⟩)

/-- The logit of row `ρ` of query block `qi` against key `k`: −∞ for a later key. -/
def blockLogit (X0 : Vec Ideal S1024x256 .bf16) (X1 : Vec Ideal S4096x256 .bf16) (qi : ℕ) (hh : Fin 2) (ρ : Fin 1024) (k : ℕ) : EReal :=
  if k ≤ 1024 * qi + ρ.val then ∑ d : Fin 128, (X0 (ix2 ρ ⟨128 * hh.val + d.val, by omega⟩) * scale2) * row X1 hh k d else ⊥

theorem ix2_congr {a b : ℕ} {x x' : Fin a} {y y' : Fin b} (h : x.val = x'.val) (h' : y.val = y'.val) : ix2 x y = ix2 x' y' := by
  rw [Fin.ext h, Fin.ext h']

theorem rowsL_apply (X : Vec Ideal S4096x256 .bf16) (off : Fin 2 → ℕ) (h : ∀ a, off a + S1024x128.size a ≤ S4096x256.size a)
    (hh : Fin 2) (n : ℕ) (h0 : off 0 = n) (h1 : off 1 = 128 * hh.val) (j : Fin 1024) (d : Fin 128) :
    rowsL X off h (ix2 j d) = row X hh (n + j.val) d := by
  have hb : off 0 + 1024 ≤ 4096 := h 0
  pointwise [rowsL]
  refine congrArg X (ix2_congr ?_ ?_)
  · show off 0 + j.val = (n + j.val) % 4096
    omega
  · show off 1 + d.val = 128 * hh.val + d.val
    omega

theorem rowsS_apply (X : Vec Ideal S4096x256 .bf16) (off : Fin 2 → ℕ) (h : ∀ a, off a + S512x128.size a ≤ S4096x256.size a)
    (hh : Fin 2) (n : ℕ) (h0 : off 0 = n) (h1 : off 1 = 128 * hh.val) (j : Fin 512) (d : Fin 128) :
    rowsS X off h (ix2 j d) = row X hh (n + j.val) d := by
  have hb : off 0 + 512 ≤ 4096 := h 0
  pointwise [rowsS]
  refine congrArg X (ix2_congr ?_ ?_)
  · show off 0 + j.val = (n + j.val) % 4096
    omega
  · show off 1 + d.val = 128 * hh.val + d.val
    omega

theorem query_apply (X : Vec Ideal S1024x256 .bf16) (off : Fin 2 → ℕ) (h : ∀ a, off a + S512x128.size a ≤ S1024x256.size a)
    (hh u : Fin 2) (h0 : off 0 = 512 * u.val) (h1 : off 1 = 128 * hh.val) (r : Fin 512) (d : Fin 128) :
    query X off h (ix2 r d) = X (ix2 ⟨512 * u.val + r.val, by omega⟩ ⟨128 * hh.val + d.val, by omega⟩) * scale2 := by
  pointwise [query]
  have hs : (Named.named (F := Ideal) (φ := .f32) κ "scale2" 0x3E16C740#32 : EReal) = scale2 :=
    IdealRules.named_const.ideal_named_scalar _ _ _ _ rfl
  rw [hs]
  refine congrArg (fun x => x * scale2) (congrArg X (ix2_congr ?_ ?_))
  · show off 0 + r.val = 512 * u.val + r.val
    omega
  · show off 1 + d.val = 128 * hh.val + d.val
    omega

theorem trips1 (i : grid0.Coords) : (k0_t1_loop i).trips = (i 2).val := by
  have h : ∀ x : Fin 4, Scf.trips 0#32
      (Scalar.addi 0#32 (Scalar.muli (Scalar.divsi (Scalar.subi (BitVec.ofNat 32 x.val) 0#32) 1#32) 1#32)) 1#32 = x.val := by decide +kernel
  exact h (i 2)

theorem off_trip (k : Fin 4) : (Scalar.indexCast (Scalar.muli (Scf.iv 0#32 1#32 k.val) 1024#32)).toNat = 1024 * k.val := by
  revert k; decide +kernel

theorem off_block (x : Fin 4) : (Scalar.indexCast (Scalar.muli (BitVec.ofNat 32 x.val) 1024#32)).toNat = 1024 * x.val := by
  revert x; decide +kernel

theorem trip_lt (i : grid0.Coords) (k : Fin (k0_t1_loop i).trips) : k.val < 4 :=
  lt_of_lt_of_le k.isLt ((trips1 i).le.trans (i 2).isLt.le)

variable (m : (ℓ : Loc nD τ sig) → Buf (Elt Ideal) ℓ) (c : Dev nD) (t : Fin cfg0.N)

/-- The query block's index. -/
def qi : ℕ := (grid0.coords t 2).val

theorem qi_lt : qi t < 4 := (grid0.coords t 2).isLt

/-- The logits of the rows of half `u` of the block, for head `hh` of the pair. -/
def S (hh u : Fin 2) (r : Fin 512) (k : ℕ) : EReal :=
  blockLogit (iblk m c 0 t) (iblk m c 1 t) (qi t) hh ⟨512 * u.val + r.val, by omega⟩ k

/-- The values of head `hh` of the pair. -/
def V (hh : Fin 2) (d : Fin 128) (k : ℕ) : EReal := row (iblk m c 2 t) hh k d

/-- The scaled queries of half `u` and head `hh`. -/
def IsQuery (q : FVec Ideal S512x128 .bf16) (hh u : Fin 2) : Prop :=
  ∀ r d, q (ix2 r d) = (show EReal from (iblk m c 0 t : Vec Ideal S1024x256 .bf16) (ix2 ⟨512 * u.val + r.val, by omega⟩ ⟨128 * hh.val + d.val, by omega⟩)) * scale2

theorem isA : IsQuery m c t (qA m c t) 0 0 := query_apply _ ![0, 0] _ 0 0 rfl rfl
theorem isB : IsQuery m c t (qB m c t) 0 1 := query_apply _ ![512, 0] _ 0 1 rfl rfl
theorem isC : IsQuery m c t (qC m c t) 1 0 := query_apply _ ![0, 128] _ 1 0 rfl rfl
theorem isD : IsQuery m c t (qD m c t) 1 1 := query_apply _ ![512, 128] _ 1 1 rfl rfl

variable {m c t}

theorem S_of_le {hh u : Fin 2} {q : FVec Ideal S512x128 .bf16} (hq : IsQuery m c t q hh u) {r : Fin 512} {k : ℕ}
    (h : k ≤ 1024 * qi t + (512 * u.val + r.val)) :
    ∑ d : Fin 128, q (ix2 r d) * row (iblk m c 1 t) hh k d = S m c t hh u r k := by
  unfold S blockLogit
  rw [if_pos h]
  exact Finset.sum_congr rfl fun d _ => congrArg (· * _) (hq r d)

theorem S_of_lt {hh u : Fin 2} {r : Fin 512} {k : ℕ} (h : 1024 * qi t + (512 * u.val + r.val) < k) : S m c t hh u r k = ⊥ :=
  if_neg (by exact not_le.2 h)

/-- A trip of the loop moves a chain on by 1024 keys. -/
theorem trip_inv {hh u : Fin 2} {q : FVec Ideal S512x128 .bf16} (hq : IsQuery m c t q hh u) {C : St} {n : ℕ}
    (h : Inv (S m c t hh u) (V m c t hh) n C) (hn : n + 1024 ≤ 1024 * qi t) (off : Fin 2 → ℕ)
    (ho : ∀ a, off a + S1024x128.size a ≤ S4096x256.size a) (h0 : off 0 = n) (h1 : off 1 = 128 * hh.val) :
    Inv (S m c t hh u) (V m c t hh) (n + 1024) (stepL (logitsL q (rowsL (iblk m c 1 t) off ho)) (rowsL (iblk m c 2 t) off ho) C) := by
  refine h.stepL (fun r j => ?_) (fun j d => rowsL_apply _ _ _ hh n h0 h1 j d)
  rw [logitsL_apply, ← S_of_le hq (by have := j.isLt; omega)]
  exact Finset.sum_congr rfl fun d _ => by rw [rowsL_apply _ _ _ hh n h0 h1]

/-- The diagonal step of a lower half moves its chain on by 1024 keys. -/
theorem lower_inv {hh : Fin 2} {q : FVec Ideal S512x128 .bf16} (hq : IsQuery m c t q hh 1) {C : St}
    (h : Inv (S m c t hh 1) (V m c t hh) (1024 * qi t) C) (off : Fin 2 → ℕ)
    (ho : ∀ a, off a + S1024x128.size a ≤ S4096x256.size a) (h0 : off 0 = 1024 * qi t) (h1 : off 1 = 128 * hh.val) :
    Inv (S m c t hh 1) (V m c t hh) (1024 * qi t + 1024)
      (stepL (causalL (logitsL q (rowsL (iblk m c 1 t) off ho))) (rowsL (iblk m c 2 t) off ho) C) := by
  refine h.stepL (fun r j => ?_) (fun j d => rowsL_apply _ _ _ hh _ h0 h1 j d)
  rw [causalL_apply, logitsL_apply]
  split
  · rename_i hj
    rw [← S_of_le hq (show _ ≤ 1024 * qi t + (512 * 1 + r.val) by omega)]
    exact Finset.sum_congr rfl fun d _ => by rw [rowsL_apply _ _ _ hh _ h0 h1]
  · rename_i hj
    rw [S_of_lt (show 1024 * qi t + (512 * 1 + r.val) < _ by omega)]

/-- The diagonal step of an upper half moves its chain on by 512 keys. -/
theorem upper_inv {hh : Fin 2} {q : FVec Ideal S512x128 .bf16} (hq : IsQuery m c t q hh 0) {C : St}
    (h : Inv (S m c t hh 0) (V m c t hh) (1024 * qi t) C) (off : Fin 2 → ℕ)
    (ho : ∀ a, off a + S512x128.size a ≤ S4096x256.size a) (h0 : off 0 = 1024 * qi t) (h1 : off 1 = 128 * hh.val) :
    Inv (S m c t hh 0) (V m c t hh) (1024 * qi t + 512)
      (stepS (causalS (logitsS q (rowsS (iblk m c 1 t) off ho))) (rowsS (iblk m c 2 t) off ho) C) := by
  refine h.stepS (fun r j => ?_) (fun j d => rowsS_apply _ _ _ hh _ h0 h1 j d)
  rw [causalS_apply, logitsS_apply]
  split
  · rename_i hj
    rw [← S_of_le hq (show _ ≤ 1024 * qi t + (512 * 0 + r.val) by omega)]
    exact Finset.sum_congr rfl fun d _ => by rw [rowsS_apply _ _ _ hh _ h0 h1]
  · rename_i hj
    rw [S_of_lt (show 1024 * qi t + (512 * 0 + r.val) < _ by omega)]

/-- The four chains' invariants together. -/
def Inv4 (m : (ℓ : Loc nD τ sig) → Buf (Elt Ideal) ℓ) (c : Dev nD) (t : Fin cfg0.N) (n : ℕ) (T : T12) : Prop :=
  Inv (S m c t 0 0) (V m c t 0) n (cA T) ∧ Inv (S m c t 0 1) (V m c t 0) n (cB T)
    ∧ Inv (S m c t 1 0) (V m c t 1) n (cC T) ∧ Inv (S m c t 1 1) (V m c t 1) n (cD T)

/-- A chain that has read nothing. -/
theorem inv_zero (S : Fin 512 → ℕ → EReal) (V : Fin 128 → ℕ → EReal) {C : St} (h1 : C.1 = k0_pay61 (F := Ideal))
    (h2 : C.2.1 = k0_pay62 (F := Ideal)) (h3 : C.2.2 = k0_pay63 (F := Ideal)) : Inv S V 0 C := by
  intro r
  refine ⟨?_, ?_, fun d => ?_⟩
  · rw [h1]; exact mask_eq
  · rw [h2]; pointwise [k0_pay62]; simp [mass]
  · rw [h3]; pointwise [k0_pay63]; simp [acc]

theorem carried_inv : ∀ j : ℕ, j ≤ qi t → Inv4 m c t (1024 * j) (carried m c t j)
  | 0, _ => ⟨inv_zero _ _ rfl rfl rfl, inv_zero _ _ rfl rfl rfl, inv_zero _ _ rfl rfl rfl, inv_zero _ _ rfl rfl rfl⟩
  | j + 1, hj => by
    obtain ⟨hA, hB, hC, hD⟩ := carried_inv j (Nat.le_of_succ_le hj)
    have hlt : j < (k0_t1_loop (grid0.coords t)).trips := (trips1 _).symm ▸ hj
    have hs : carried m c t (j + 1) = _ := (st_k0_t1_succ (F := Ideal) _ _ _ _ _ _ _ _ _ _ _ _ _ _ _ _ _ _ _ _ _ _ _ _ _ _ _ _ _ _ _ ⟨j, hlt⟩).trans
      (trip_eq _ _ _ _ _ _ _ _ _ _ _ _ _ _ _ _ _ _ _ _ _ _ _ _ )
    have hq := qi_lt t
    have e0 : k0_off1 (grid0.coords t) ⟨j, hlt⟩ 0 = 1024 * j := off_trip ⟨j, by omega⟩
    have e0' : k0_off2 (grid0.coords t) ⟨j, hlt⟩ 0 = 1024 * j := off_trip ⟨j, by omega⟩
    rw [hs, show 1024 * (j + 1) = 1024 * j + 1024 by ring]
    exact ⟨trip_inv (isA m c t) hA (by omega) _ _ e0 rfl, trip_inv (isB m c t) hB (by omega) _ _ e0 rfl,
      trip_inv (isC m c t) hC (by omega) _ _ e0' rfl, trip_inv (isD m c t) hD (by omega) _ _ e0' rfl⟩

theorem looped_inv : Inv4 m c t (1024 * qi t) (looped m c t) := by
  unfold looped
  rw [trips1]
  exact carried_inv _ le_rfl

/-- A chain that has read at least the keys up to its queries holds the quotient over all keys. -/
theorem quotient_all {hh u : Fin 2} {n : ℕ} {C : St} (h : Inv (S m c t hh u) (V m c t hh) n C) (hn : n ≤ 4096)
    (r : Fin 512) (hr : 1024 * qi t + (512 * u.val + r.val) < n) (d : Fin 128) :
    Ideal.div (C.2.2 (ix2 r d)) (C.2.1 (ix2 r 0))
      = Ideal.div (acc (S m c t hh u r) (V m c t hh d) 4096) (mass (S m c t hh u r) 4096) := by
  obtain ⟨-, h2, h3⟩ := h r
  have hb : ∀ k, n ≤ k → k < 4096 → S m c t hh u r k = ⊥ := fun k hk _ => S_of_lt (lt_of_lt_of_le hr hk)
  rw [h2, h3, acc_masked _ hn hb, mass_masked hn hb]

end Cert.Own.Block

end
-- ==== Proof.Entry.lean ====
module
public import proofs.«01_k».proof.Proof.Block
@[expose] public section

/-!
# A grid point's block, at an index

The two halves of the block together: the entry of row `ρ` and column `e` is the quotient of head `e / 64` of the pair,
at column `e % 64` of the values.
-/

set_option maxRecDepth 16384

noncomputable section

namespace Cert.Own.Entry

open Idealize.ShloMosaic Idealize.ShloMosaic.TcCoe Idealize.ShloMosaic.Tactic
open Cert.AttnIdeal Cert.AttnIdeal.Gen Cert.Own.Online Cert.Own.Steps Cert.Own.Chain Cert.Own.Trip Cert.Own.Block

/-- The quotient a query row of a block ends with. -/
def quot (X0 : Vec Ideal S1024x256 .bf16) (X1 X2 : Vec Ideal S4096x256 .bf16) (qi : ℕ) (hh : Fin 2) (ρ : Fin 1024) (d : Fin 128) : EReal :=
  Ideal.div (acc (blockLogit X0 X1 qi hh ρ) (fun k => row X2 hh k d) 4096) (mass (blockLogit X0 X1 qi hh ρ) 4096)

variable (m : (ℓ : Loc nD τ sig) → Buf (Elt Ideal) ℓ) (c : Dev nD) (t : Fin cfg0.N)

theorem diag_off (i : grid0.Coords) : (Scalar.indexCast (Scalar.muli (BitVec.ofNat 32 (i 2).val) 1024#32)).toNat = 1024 * (i 2).val :=
  off_block (i 2)

theorem lastA_inv : Inv (S m c t 0 0) (V m c t 0) (1024 * qi t + 512) (lastA m c t) :=
  upper_inv (isA m c t) looped_inv.1 _ _ (diag_off _) rfl
theorem lastB_inv : Inv (S m c t 0 1) (V m c t 0) (1024 * qi t + 1024) (lastB m c t) :=
  lower_inv (isB m c t) looped_inv.2.1 _ _ (diag_off _) rfl
theorem lastC_inv : Inv (S m c t 1 0) (V m c t 1) (1024 * qi t + 512) (lastC m c t) :=
  upper_inv (isC m c t) looped_inv.2.2.1 _ _ (diag_off _) rfl
theorem lastD_inv : Inv (S m c t 1 1) (V m c t 1) (1024 * qi t + 1024) (lastD m c t) :=
  lower_inv (isD m c t) looped_inv.2.2.2 _ _ (diag_off _) rfl

variable {m c t}

/-- Two heads' chains side by side. -/
theorem pack_quot {u : Fin 2} {n : ℕ} {C D : St} (hC : Inv (S m c t 0 u) (V m c t 0) n C) (hD : Inv (S m c t 1 u) (V m c t 1) n D)
    (hn : n ≤ 4096) (r : Fin 512) (hr : 1024 * qi t + (512 * u.val + r.val) < n) (e : Fin 128) :
    pack C.2.1 C.2.2 D.2.1 D.2.2 (ix2 r e)
      = quot (iblk m c 0 t) (iblk m c 1 t) (iblk m c 2 t) (qi t) ⟨e.val / 64, by omega⟩ ⟨512 * u.val + r.val, by omega⟩ ⟨e.val % 64, by omega⟩ := by
  rw [pack_apply]
  split
  · rename_i h
    rw [quotient_all hC hn r hr]
    have e1 : (⟨e.val / 64, by omega⟩ : Fin 2) = 0 := Fin.ext (by show e.val / 64 = 0; omega)
    have e2 : (⟨e.val % 64, by omega⟩ : Fin 128) = e := Fin.ext (by show e.val % 64 = e.val; omega)
    rw [e1, e2]
    rfl
  · rename_i h
    rw [quotient_all hD hn r hr]
    have e1 : (⟨e.val / 64, by omega⟩ : Fin 2) = 1 := Fin.ext (by show e.val / 64 = 1; omega)
    have e2 : (⟨e.val % 64, by omega⟩ : Fin 128) = ⟨e.val - 64, by omega⟩ := Fin.ext (by show e.val % 64 = e.val - 64; omega)
    rw [e1, e2]
    rfl

variable (m c t)

theorem outs_apply (ρ : Fin 1024) (e : Fin 128) :
    (outsAt0 m c t : Vec Ideal S1024x128 .bf16) (ix2 ρ e)
      = quot (iblk m c 0 t) (iblk m c 1 t) (iblk m c 2 t) (qi t) ⟨e.val / 64, by omega⟩ ρ ⟨e.val % 64, by omega⟩ := by
  have hq := qi_lt t
  rw [outs_eq]
  by_cases h : 512 ≤ ρ.val
  · have hx : (ix2 ρ e : S1024x128.Idx) = (Rect.unit (s := S1024x128) ![512, 0] ![512, 128] inb_S1024x128_S512x128_512_0).emb (ix2 (⟨ρ.val - 512, by omega⟩ : Fin 512) e) := by
      funext a
      refine Fin.cases (Fin.ext ?_) (fun a => Fin.cases (Fin.ext ?_) (fun a => a.elim0) a) a
      · show ρ.val = 512 + 1 * (ρ.val - 512); omega
      · show e.val = 0 + 1 * e.val; omega
    have hr : (⟨512 * (1 : Fin 2).val + (ρ.val - 512), by show 512 * 1 + _ < _; omega⟩ : Fin 1024) = ρ := Fin.ext (by show 512 * 1 + (ρ.val - 512) = ρ.val; omega)
    rw [hx, View.canon_cons_emb]
    refine (pack_quot (lastB_inv m c t) (lastD_inv m c t) (by omega) ⟨ρ.val - 512, by omega⟩ (by show _ + (512 * 1 + (ρ.val - 512)) < _; omega) e).trans ?_
    rw [hr]
  · have hx : (ix2 ρ e : S1024x128.Idx) = (Rect.unit (s := S1024x128) ![0, 0] ![512, 128] inb_S1024x128_S512x128_0_0).emb (ix2 (⟨ρ.val, by omega⟩ : Fin 512) e) := by
      funext a
      refine Fin.cases (Fin.ext ?_) (fun a => Fin.cases (Fin.ext ?_) (fun a => a.elim0) a) a
      · show ρ.val = 0 + 1 * ρ.val; omega
      · show e.val = 0 + 1 * e.val; omega
    have hn : (ix2 ρ e : S1024x128.Idx) ∉ (Rect.unit (s := S1024x128) ![512, 0] ![512, 128] inb_S1024x128_S512x128_512_0).set := by
      rw [Rect.mem_set_unit]
      intro hm
      exact h (hm 0).1
    have hr : (⟨512 * (0 : Fin 2).val + ρ.val, by show 512 * 0 + _ < _; omega⟩ : Fin 1024) = ρ := Fin.ext (by show 512 * 0 + ρ.val = ρ.val; omega)
    refine (View.canon_cons_of_not_mem (⟨Rect.unit (s := S1024x128) ![512, 0] ![512, 128] inb_S1024x128_S512x128_512_0, _⟩ : View.Piece (Elt Ideal) S1024x128 .bf16) _ hn).trans ?_
    rw [hx, View.canon_cons_emb]
    refine (pack_quot (lastA_inv m c t) (lastC_inv m c t) (by omega) ⟨ρ.val, by omega⟩ (by show _ + (512 * 0 + ρ.val) < _; omega) e).trans ?_
    rw [hr]

end Cert.Own.Entry

end
-- ==== Proof.Input.lean ====
module
public import proofs.«01_k».proof.Proof.Entry
public import proofs.«01_k».proof.Proof.Gen.AttnIdeal.Value
public import Idealize.ShloMosaic.Lib.Pipeline.ValueKit
public import Idealize.ShloMosaic.Lib.Claim
@[expose] public section

/-!
# The packed arrays the attention call reads

The host lays every head out over 128 lanes: 64 of the part without positions, 32 of the rotary part (for the keys
the same rotary part under every head) and 32 zeros; a head's values are followed by 64 zeros. This module reads the
three packed arrays, and the blocks a grid point fetches from them, at an index.
-/

set_option maxRecDepth 16384

noncomputable section

namespace Cert.Own.Input

open Idealize.ShloMosaic Idealize.ShloMosaic.TcCoe Idealize.ShloMosaic.Tactic
open Cert.AttnIdeal Cert.AttnIdeal.Gen Cert.Own.Block

/-- The 128 lanes of a head: 64 of `f`, 32 of `g`, 32 zeros. -/
def lanes (f : Fin 64 → EReal) (g : Fin 32 → EReal) (d : Fin 128) : EReal :=
  if h : d.val < 64 then f ⟨d.val, h⟩ else if h' : d.val - 64 < 32 then g ⟨d.val - 64, h'⟩ else 0

variable (m : (ℓ : Loc nD τ sig) → Buf (Elt Ideal) ℓ) (c : Dev nD) (t : Fin cfg0.N)

/-- The arguments. -/
def a0 : FVec Ideal S2x4096x8x64 .f32 := m ((c : Thread nD τ).loc main_arg0)
def a1 : FVec Ideal S2x4096x8x32 .f32 := m ((c : Thread nD τ).loc main_arg1)
def a2 : FVec Ideal S2x4096x8x64 .f32 := m ((c : Thread nD τ).loc main_arg2)
def a3 : FVec Ideal S2x4096x32 .f32 := m ((c : Thread nD τ).loc main_arg3)
def a4 : FVec Ideal S2x4096x8x64 .f32 := m ((c : Thread nD τ).loc main_arg4)

/-- The packing of three pieces, at an index. -/
theorem packed_apply (a : FVec Ideal S2x4096x8x64 .f32) (b z : FVec Ideal S2x4096x8x32 .f32) (h) (hz : ∀ i, z i = (0 : EReal))
    (r : Fin 8192) (e : Fin 1024) :
    (truncf .bf16 (shapeCast S8192x1024 (concatenate S2x4096x8x128 3 [⟨S2x4096x8x64, a⟩, ⟨S2x4096x8x32, b⟩, ⟨S2x4096x8x32, z⟩] h)
        shapeCasts_S2x4096x8x128_S8192x1024) bitsLt_bf16_f32 : FVec Ideal S8192x1024 .bf16) (ix2 r e)
      = lanes (fun d => a (ix4 ⟨r.val / 4096, by omega⟩ ⟨r.val % 4096, by omega⟩ ⟨e.val / 128, by omega⟩ d))
          (fun d => b (ix4 ⟨r.val / 4096, by omega⟩ ⟨r.val % 4096, by omega⟩ ⟨e.val / 128, by omega⟩ d)) ⟨e.val % 128, by omega⟩ := by
  pointwise
  simp only [hz]
  rfl

theorem zeros_apply (i : S2x4096x8x32.Idx) :
    (broadcastInDim S2x4096x8x32 ![] bcast_S_S2x4096x8x32 (constant (F := Ideal) S_ .f32 0x00000000#32) i : EReal) = 0 := by
  pointwise

theorem shared_apply (x : FVec Ideal S2x4096x32 .f32) (b : Fin 2) (s : Fin 4096) (h : Fin 8) (d : Fin 32) :
    (broadcastInDim S2x4096x8x32 ![0, 1, 2, 3] bcast_S2x4096x1x32_S2x4096x8x32_0_1_2_3
      (broadcastInDim S2x4096x1x32 ![0, 1, 3] bcast_S2x4096x32_S2x4096x1x32_0_1_3 x)) (ix4 b s h d) = x (ix3 b s d) := by
  pointwise

theorem q_apply (r : Fin 8192) (e : Fin 1024) : (Gen.V m c main_v9 : Vec Ideal S8192x1024 .bf16) (ix2 r e)
    = lanes (fun d => a0 m c (ix4 ⟨r.val / 4096, by omega⟩ ⟨r.val % 4096, by omega⟩ ⟨e.val / 128, by omega⟩ d))
        (fun d => a1 m c (ix4 ⟨r.val / 4096, by omega⟩ ⟨r.val % 4096, by omega⟩ ⟨e.val / 128, by omega⟩ d)) ⟨e.val % 128, by omega⟩ := by
  dsimp only [Gen.V, hostOps0]
  after_results
  exact packed_apply (a0 m c) (a1 m c) (broadcastInDim S2x4096x8x32 ![] bcast_S_S2x4096x8x32 (constant S_ .f32 0x00000000#32)) _ zeros_apply r e

theorem k_apply (r : Fin 8192) (e : Fin 1024) : (Gen.V m c main_v11 : Vec Ideal S8192x1024 .bf16) (ix2 r e)
    = lanes (fun d => a2 m c (ix4 ⟨r.val / 4096, by omega⟩ ⟨r.val % 4096, by omega⟩ ⟨e.val / 128, by omega⟩ d))
        (fun d => a3 m c (ix3 ⟨r.val / 4096, by omega⟩ ⟨r.val % 4096, by omega⟩ d)) ⟨e.val % 128, by omega⟩ := by
  dsimp only [Gen.V, hostOps0]
  after_results
  refine (packed_apply (a2 m c) (broadcastInDim S2x4096x8x32 ![0, 1, 2, 3] bcast_S2x4096x1x32_S2x4096x8x32_0_1_2_3
      (broadcastInDim S2x4096x1x32 ![0, 1, 3] bcast_S2x4096x32_S2x4096x1x32_0_1_3 (a3 m c)))
    (broadcastInDim S2x4096x8x32 ![] bcast_S_S2x4096x8x32 (constant S_ .f32 0x00000000#32)) _ zeros_apply r e).trans ?_
  exact congrArg (fun g => lanes _ g _) (funext fun d => shared_apply (a3 m c) _ _ _ d)

theorem v_apply (r : Fin 8192) (e : Fin 1024) (he : e.val % 128 < 64) : (Gen.V m c main_v13 : Vec Ideal S8192x1024 .bf16) (ix2 r e)
    = a4 m c (ix4 ⟨r.val / 4096, by omega⟩ ⟨r.val % 4096, by omega⟩ ⟨e.val / 128, by omega⟩ ⟨e.val % 128, he⟩) := by
  dsimp only [Gen.V, hostOps0]
  after_results
  pointwise
  rw [dif_pos he]
  rfl

/-- The batch, the pair of heads and the query block of a grid point, and where its blocks lie. -/
theorem idx_facts : ∀ t : Fin cfg0.N, win0_0.index t = ![4 * (grid0.coords t 0).val + (grid0.coords t 2).val, (grid0.coords t 1).val]
    ∧ win0_1.index t = ![(grid0.coords t 0).val, (grid0.coords t 1).val] ∧ win0_2.index t = ![(grid0.coords t 0).val, (grid0.coords t 1).val]
    ∧ win0_3.index t = ![4 * (grid0.coords t 0).val + (grid0.coords t 2).val, (grid0.coords t 1).val] :=
  (by decide +kernel : ∀ t : Fin grid0.N, _)

/-- The batch and the pair of heads. -/
def bt : Fin 2 := grid0.coords t 0
def hp : Fin 4 := grid0.coords t 1

theorem iblk0_apply (ρ : Fin 1024) (e : Fin 256) :
    (iblk m c 0 t : Vec Ideal S1024x256 .bf16) (ix2 ρ e)
      = (Gen.V m c main_v9 : Vec Ideal S8192x1024 .bf16) (ix2 (⟨4096 * (bt t).val + 1024 * qi t + ρ.val, by have := qi_lt t; have := (bt t).isLt; omega⟩ : Fin 8192)
          (⟨256 * (hp t).val + e.val, by have := (hp t).isLt; omega⟩ : Fin 1024)) := by
  have h := (idx_facts t).1
  unfold bt hp qi
  blk_ext [iblk, h]

theorem iblk1_apply (s : Fin 4096) (e : Fin 256) :
    (iblk m c 1 t : Vec Ideal S4096x256 .bf16) (ix2 s e)
      = (Gen.V m c main_v11 : Vec Ideal S8192x1024 .bf16) (ix2 (⟨4096 * (bt t).val + s.val, by have := (bt t).isLt; omega⟩ : Fin 8192)
          (⟨256 * (hp t).val + e.val, by have := (hp t).isLt; omega⟩ : Fin 1024)) := by
  have h := (idx_facts t).2.1
  unfold bt hp
  blk_ext [iblk, h]

theorem iblk2_apply (s : Fin 4096) (e : Fin 256) :
    (iblk m c 2 t : Vec Ideal S4096x256 .bf16) (ix2 s e)
      = (Gen.V m c main_v13 : Vec Ideal S8192x1024 .bf16) (ix2 (⟨4096 * (bt t).val + s.val, by have := (bt t).isLt; omega⟩ : Fin 8192)
          (⟨256 * (hp t).val + e.val, by have := (hp t).isLt; omega⟩ : Fin 1024)) := by
  have h := (idx_facts t).2.2.1
  unfold bt hp
  blk_ext [iblk, h]

end Cert.Own.Input

end
-- ==== Proof.Ref.lean ====
module
public import proofs.«01_k».proof.Proof.Gen.AttnRefIdeal.Read
public import proofs.«01_k».proof.Proof.Online
public import Idealize.ShloMosaic.Lib.WordCmp
@[expose] public section

/-!
# The reference, at an index

An entry of the reference's result is the softmax average of the values, written over the keys `0, …, 4095` of a
batch's sequence as a function of a natural number.
-/

set_option maxRecDepth 16384

noncomputable section

namespace Cert.Own.Ref

open Idealize.ShloMosaic Idealize.ShloMosaic.Tactic
open Cert.AttnRefIdeal Cert.AttnRefIdeal.Gen Cert.AttnRefIdeal.Read Cert.Own.Online

/-- The reference's scale, the float nearest to the square root of 1/96. -/
def scale : EReal := ((3424635 / 33554432 : ℝ) : EReal)

theorem scale_eq : (FloatOps.ofBits (F := Ideal) .f32 0x3DD105EC#32 : EReal) = scale := by
  show Ideal.ofBits .f32 0x3DD105EC#32 = scale
  unfold scale
  simp [Ideal.ofBits, Ideal.ieee, -EReal.coe_mul]
  norm_num

theorem neg_inf_eq : (FloatOps.ofBits (F := Ideal) .f32 0xFF800000#32 : EReal) = ⊥ := by
  show Ideal.ofBits .f32 0xFF800000#32 = ⊥
  simp [Ideal.ofBits, Ideal.ieee]

variable (x0 : FVec Ideal S2x4096x8x64 .f32) (x1 : FVec Ideal S2x4096x8x32 .f32) (x2 : FVec Ideal S2x4096x8x64 .f32)
  (x3 : FVec Ideal S2x4096x32 .f32) (x4 : FVec Ideal S2x4096x8x64 .f32)

/-- A key's position as an index. -/
def pos (k : ℕ) : Fin 4096 := ⟨k % 4096, Nat.mod_lt _ (by norm_num)⟩

/-- The product of a query with a key: the part without positions and the rotary part. -/
def product (b : Fin 2) (h : Fin 8) (q : Fin 4096) (k : ℕ) : EReal :=
  (∑ d : Fin 64, x0 (ix4 b q h d) * x2 (ix4 b (pos k) h d)) + ∑ d : Fin 32, x3 (ix3 b (pos k) d) * x1 (ix4 b q h d)

/-- The logit of a query against a key: −∞ for a later key. -/
def logit (b : Fin 2) (h : Fin 8) (q : Fin 4096) (k : ℕ) : EReal :=
  if k ≤ q.val then product x0 x1 x2 x3 b h q k * scale else ⊥

theorem select_le (a b : ℕ) (ha : a < 4096) (hb : b < 4096) (x y : EReal) :
    Scalar.select (IntOp.cmpi .sle (BitVec.ofNat 32 a) (BitVec.ofNat 32 b)) x y = if a ≤ b then x else y := by
  by_cases h : a ≤ b
  · rw [if_pos h, WordCmp.select_of_eq_one ((WordCmp.cmpi_sle_ofNat_eq_one_iff (by norm_num; omega) (by norm_num; omega)).2 h)]
  · rw [if_neg h, WordCmp.select_of_eq_zero ((WordCmp.cmpi_sle_ofNat_eq_zero_iff (by norm_num; omega) (by norm_num; omega)).2 h)]

theorem pos_val (k : Fin 4096) : pos k.val = k := Fin.ext (Nat.mod_eq_of_lt k.isLt)

theorem v3_apply (b : Fin 2) (h : Fin 8) (q k : Fin 4096) :
    val_main_v3 (F := Ideal) x0 x1 x2 x3 (ix4 b h q k) = product x0 x1 x2 x3 b h q k.val := by
  unfold product
  rw [pos_val]
  pointwise [val_main_v3, val_main_v0, val_main_v2, val_main_v1]

theorem v12_apply (b : Fin 2) (h : Fin 8) (q k : Fin 4096) :
    val_main_v12 (F := Ideal) x0 x1 x2 x3 (ix4 b h q k) = logit x0 x1 x2 x3 b h q k.val := by
  rw [val_main_v12_apply, val_main_call0_v1_apply, val_main_v11_apply, val_main_v9_apply, val_main_v7_apply, val_main_v6_apply,
    val_main_v10_apply, val_main_v8_apply, val_main_v6_apply, val_main_call0_v2_apply, val_main_call0_v0_apply, val_main_cst_0_apply,
    val_main_v5_apply, val_main_v4_apply, val_main_cst_apply, v3_apply, scale_eq, neg_inf_eq]
  exact select_le k.val q.val k.isLt q.isLt _ _

theorem sup_range (n : ℕ) (f : ℕ → EReal) : (Finset.univ : Finset (Fin n)).sup (fun k => f k.val) = (Finset.range n).sup f := by
  refine le_antisymm (Finset.sup_le fun k _ => Finset.le_sup (f := f) (Finset.mem_range.2 k.isLt)) (Finset.sup_le fun k hk => ?_)
  exact Finset.le_sup (f := fun k : Fin n => f k.val) (Finset.mem_univ ⟨k, Finset.mem_range.1 hk⟩)

theorem v13_apply (b : Fin 2) (h : Fin 8) (q : Fin 4096) :
    val_main_v13 (F := Ideal) x0 x1 x2 x3 (ix3 b h q) = top (logit x0 x1 x2 x3 b h q) 4096 := by
  have hv := v12_apply x0 x1 x2 x3 b h q
  unfold val_main_v13
  generalize val_main_v12 (F := Ideal) x0 x1 x2 x3 = y at hv
  pointwise
  rw [val_main_cst_1_apply, neg_inf_eq]
  simp only [hv]
  exact sup_range 4096 _

theorem v19_apply (b : Fin 2) (h : Fin 8) (q k : Fin 4096) :
    val_main_v19 (F := Ideal) x0 x1 x2 x3 (ix4 b h q k)
      = Ideal.exp (logit x0 x1 x2 x3 b h q k.val - top (logit x0 x1 x2 x3 b h q) 4096) := by
  have e : idx_main_v16 (idx_main_v17 (ix4 b h q k)) = ix3 b h q := by
    funext a; match a with | ⟨0, _⟩ => rfl | ⟨1, _⟩ => rfl | ⟨2, _⟩ => rfl
  rw [val_main_v19_apply, val_main_v18_apply, v12_apply, val_main_v17_apply, val_main_v16_apply, val_main_v15_apply, val_main_v14_apply,
    val_main_cst_2_apply, neg_inf_eq, e, v13_apply]
  show Ideal.exp (_ - max ⊥ _) = _
  rw [max_eq_right bot_le]

theorem v20_apply (b : Fin 2) (h : Fin 8) (q : Fin 4096) :
    val_main_v20 (F := Ideal) x0 x1 x2 x3 (ix3 b h q)
      = ∑ j ∈ Finset.range 4096, Ideal.exp (logit x0 x1 x2 x3 b h q j - top (logit x0 x1 x2 x3 b h q) 4096) := by
  rw [val_main_v20_apply, val_main_cst_3_apply, ← Fin.sum_univ_eq_sum_range (fun j => Ideal.exp (logit x0 x1 x2 x3 b h q j - top (logit x0 x1 x2 x3 b h q) 4096))]
  rw [show (FloatOps.ofBits (F := Ideal) .f32 0x00000000#32 : EReal) = 0 from by
    show Ideal.ofBits .f32 0x00000000#32 = 0
    simp [Ideal.ofBits, Ideal.ieee], zero_add]
  refine Finset.sum_congr rfl fun k _ => ?_
  rw [← v19_apply]
  refine congrArg _ (funext fun a => ?_)
  match a with | ⟨0, _⟩ => rfl | ⟨1, _⟩ => rfl | ⟨2, _⟩ => rfl | ⟨3, _⟩ => rfl

/-- The softmax average of the values. -/
def average (b : Fin 2) (h : Fin 8) (q : Fin 4096) (d : Fin 64) : EReal :=
  ∑ k ∈ Finset.range 4096, Ideal.div (Ideal.exp (logit x0 x1 x2 x3 b h q k - top (logit x0 x1 x2 x3 b h q) 4096))
    (∑ j ∈ Finset.range 4096, Ideal.exp (logit x0 x1 x2 x3 b h q j - top (logit x0 x1 x2 x3 b h q) 4096)) * x4 (ix4 b (pos k) h d)

theorem v23_apply (b : Fin 2) (h : Fin 8) (q k : Fin 4096) :
    val_main_v23 (F := Ideal) x0 x1 x2 x3 (ix4 b h q k)
      = Ideal.div (Ideal.exp (logit x0 x1 x2 x3 b h q k.val - top (logit x0 x1 x2 x3 b h q) 4096))
        (∑ j ∈ Finset.range 4096, Ideal.exp (logit x0 x1 x2 x3 b h q j - top (logit x0 x1 x2 x3 b h q) 4096)) := by
  have e : idx_main_v21 (idx_main_v22 (ix4 b h q k)) = ix3 b h q := by
    funext a; match a with | ⟨0, _⟩ => rfl | ⟨1, _⟩ => rfl | ⟨2, _⟩ => rfl
  rw [val_main_v23_apply, v19_apply, val_main_v22_apply, val_main_v21_apply, e, v20_apply]
  rfl

theorem v24_apply (b : Fin 2) (h : Fin 8) (d : Fin 64) (q : Fin 4096) :
    val_main_v24 (F := Ideal) x0 x1 x2 x3 x4 (ix4 b h d q) = average x0 x1 x2 x3 x4 b h q d := by
  unfold average
  rw [val_main_v24_apply, ← Fin.sum_univ_eq_sum_range (fun k => Ideal.div (Ideal.exp (logit x0 x1 x2 x3 b h q k - top (logit x0 x1 x2 x3 b h q) 4096))
    (∑ j ∈ Finset.range 4096, Ideal.exp (logit x0 x1 x2 x3 b h q j - top (logit x0 x1 x2 x3 b h q) 4096)) * x4 (ix4 b (pos k) h d))]
  refine Finset.sum_congr rfl fun k _ => ?_
  have el : lidx_main_v24 (ix4 b h d q) k = ix4 b k h d := by
    funext a; match a with | ⟨0, _⟩ => rfl | ⟨1, _⟩ => rfl | ⟨2, _⟩ => rfl | ⟨3, _⟩ => rfl
  have er : ridx_main_v24 (ix4 b h d q) k = ix4 b h q k := by
    funext a; match a with | ⟨0, _⟩ => rfl | ⟨1, _⟩ => rfl | ⟨2, _⟩ => rfl | ⟨3, _⟩ => rfl
  rw [el, er, v23_apply, pos_val, mul_comm]

/-- The result, row `r` of all batches and column `e` of all heads. -/
theorem v27_apply (r : Fin 8192) (e : Fin 512) :
    (val_main_v27 (F := Ideal) x0 x1 x2 x3 x4 (ix2 r e) : EReal)
      = average x0 x1 x2 x3 x4 ⟨r.val / 4096, by omega⟩ ⟨e.val / 64, by omega⟩ ⟨r.val % 4096, by omega⟩ ⟨e.val % 64, by omega⟩ := by
  have ei : idx_main_v25 (idx_main_v26 (ix2 r e)) = ix4 (⟨r.val / 4096, by omega⟩ : Fin 2) (⟨e.val / 64, by omega⟩ : Fin 8)
      (⟨e.val % 64, by omega⟩ : Fin 64) (⟨r.val % 4096, by omega⟩ : Fin 4096) := by
    have hr := r.isLt
    have he := e.isLt
    funext a
    match a with
    | ⟨0, _⟩ => exact Fin.ext (by show (r.val * 512 + e.val) / 2097152 = r.val / 4096; omega)
    | ⟨1, _⟩ => exact Fin.ext (by show (r.val * 512 + e.val) / 64 % 8 = e.val / 64; omega)
    | ⟨2, _⟩ => exact Fin.ext (by show (r.val * 512 + e.val) % 64 = e.val % 64; omega)
    | ⟨3, _⟩ => exact Fin.ext (by show (r.val * 512 + e.val) / 512 % 4096 = r.val % 4096; omega)
  rw [val_main_v27_apply, val_main_v26_apply, val_main_v25_apply, ei]
  exact v24_apply x0 x1 x2 x3 x4 _ _ _ _

end Cert.Own.Ref

end
-- ==== Proof.Tie.lean ====
module
public import proofs.«01_k».proof.Proof.Input
public import proofs.«01_k».proof.Proof.Ref
@[expose] public section

/-!
# The kernel's array is the reference's

With finite queries and keys the kernel's logits are the reference's over log 2, so every entry of a block is the
softmax average that the reference computes there; the blocks tile the array.
-/

set_option maxRecDepth 16384

noncomputable section

namespace Cert.Own.Tie

open Idealize.ShloMosaic Idealize.ShloMosaic.TcCoe Idealize.ShloMosaic.Tactic
open Cert.AttnIdeal Cert.AttnIdeal.Gen Cert.Own.Online Cert.Own.Block Cert.Own.Entry Cert.Own.Input

/-- The entries of an array are real numbers. -/
def AllReal {ι : Type} (f : ι → EReal) : Prop := ∃ g : ι → ℝ, ∀ i, f i = (g i : EReal)

theorem coe_sum {n : ℕ} (f : Fin n → ℝ) : ∑ i, (f i : EReal) = ((∑ i, f i : ℝ) : EReal) := by
  have h : ∀ s : Finset (Fin n), ∑ i ∈ s, (f i : EReal) = ((∑ i ∈ s, f i : ℝ) : EReal) := by
    intro s
    induction s using Finset.cons_induction with
    | empty => simp
    | cons a s ha ih => rw [Finset.sum_cons, Finset.sum_cons, ih, EReal.coe_add]
  exact h _

/-- A sum over a head's lanes: the zeros add nothing. -/
theorem sum_lanes (f f' : Fin 64 → EReal) (g g' : Fin 32 → EReal) (s : EReal) :
    ∑ d : Fin 128, (lanes f g d * s) * lanes f' g' d = ∑ d, (f d * s) * f' d + ∑ d, (g d * s) * g' d := by
  have h := Fin.sum_univ_add (a := 64) (b := 64) (fun d : Fin (64 + 64) => (lanes f g d * s) * lanes f' g' d)
  have h' := Fin.sum_univ_add (a := 32) (b := 32) (fun d : Fin (32 + 32) => (lanes f g (Fin.natAdd 64 d) * s) * lanes f' g' (Fin.natAdd 64 d))
  refine h.trans (congrArg₂ (· + ·) (Finset.sum_congr rfl fun d _ => ?_) (h'.trans ?_))
  · have hd : (Fin.castAdd 64 d : Fin (64 + 64)).val < 64 := d.isLt
    simp only [lanes, dif_pos hd]
    rfl
  · rw [← add_zero (∑ d, (g d * s) * g' d)]
    refine congrArg₂ (· + ·) (Finset.sum_congr rfl fun d _ => ?_) (Finset.sum_eq_zero fun d _ => ?_)
    · have h1 : ¬ (Fin.natAdd 64 (Fin.castAdd 32 d : Fin (32 + 32)) : Fin (64 + 64)).val < 64 := by simp
      have h2 : (Fin.natAdd 64 (Fin.castAdd 32 d : Fin (32 + 32)) : Fin (64 + 64)).val - 64 < 32 := by simp
      simp only [lanes, dif_neg h1, dif_pos h2]
      have h3 : (⟨(Fin.natAdd 64 (Fin.castAdd 32 d : Fin (32 + 32)) : Fin (64 + 64)).val - 64, h2⟩ : Fin 32) = d := Fin.ext (by simp)
      rw [h3]
    · have h1 : ¬ (Fin.natAdd 64 (Fin.natAdd 32 d : Fin (32 + 32)) : Fin (64 + 64)).val < 64 := by simp
      have h2 : ¬ (Fin.natAdd 64 (Fin.natAdd 32 d : Fin (32 + 32)) : Fin (64 + 64)).val - 64 < 32 := by simp
      simp only [lanes, dif_neg h1, dif_neg h2, zero_mul]

/-- The kernel's product of a scaled query with a key, from the reference's. -/
theorem scaled (f f' : Fin 64 → EReal) (g g' : Fin 32 → EReal) (hf : AllReal f) (hf' : AllReal f') (hg : AllReal g) (hg' : AllReal g') :
    ∑ d : Fin 128, (lanes f g d * scale2) * lanes f' g' d = ((∑ d, f d * f' d + ∑ d, g' d * g d) * Ref.scale) * (invLog2 : EReal) := by
  obtain ⟨F, hF⟩ := hf
  obtain ⟨F', hF'⟩ := hf'
  obtain ⟨G, hG⟩ := hg
  obtain ⟨G', hG'⟩ := hg'
  rw [sum_lanes]
  unfold scale2 Ref.scale invLog2
  simp only [hF, hF', hG, hG', ← EReal.coe_mul, coe_sum, ← EReal.coe_add]
  refine congrArg _ ?_
  rw [add_mul, add_mul, Finset.sum_mul, Finset.sum_mul, Finset.sum_mul, Finset.sum_mul]
  refine congrArg₂ (· + ·) (Finset.sum_congr rfl fun d _ => by ring) (Finset.sum_congr rfl fun d _ => by ring)

/-- The reference's product of finite queries and keys is a real number. -/
theorem product_real (f f' : Fin 64 → EReal) (g g' : Fin 32 → EReal) (hf : AllReal f) (hf' : AllReal f') (hg : AllReal g) (hg' : AllReal g') :
    ∃ r : ℝ, (∑ d, f d * f' d + ∑ d, g' d * g d) * Ref.scale = (r : EReal) := by
  obtain ⟨F, hF⟩ := hf
  obtain ⟨F', hF'⟩ := hf'
  obtain ⟨G, hG⟩ := hg
  obtain ⟨G', hG'⟩ := hg'
  refine ⟨(∑ d, F d * F' d + ∑ d, G' d * G d) * (3424635 / 33554432), ?_⟩
  unfold Ref.scale
  simp only [hF, hF', hG, hG', ← EReal.coe_mul, coe_sum, ← EReal.coe_add]

variable (m : (ℓ : Loc nD τ sig) → Buf (Elt Ideal) ℓ) (c : Dev nD)

/-- The queries and keys are real numbers. -/
def Finite : Prop := AllReal (a0 m c) ∧ AllReal (a1 m c) ∧ AllReal (a2 m c) ∧ AllReal (a3 m c)

variable (t : Fin cfg0.N)

/-- A head's number. -/
def head (hh : Fin 2) : Fin 8 := ⟨2 * (hp t).val + hh.val, by have := (hp t).isLt; omega⟩
/-- A query's position. -/
def at_ (ρ : Fin 1024) : Fin 4096 := ⟨1024 * qi t + ρ.val, by have := qi_lt t; omega⟩

theorem ix4_congr {a b d e : ℕ} {x x' : Fin a} {y y' : Fin b} {z z' : Fin d} {w w' : Fin e} (h : x.val = x'.val) (h' : y.val = y'.val)
    (h'' : z.val = z'.val) (h''' : w.val = w'.val) : ix4 x y z w = ix4 x' y' z' w' := by
  rw [Fin.ext h, Fin.ext h', Fin.ext h'', Fin.ext h''']

theorem ix3_congr {a b d : ℕ} {x x' : Fin a} {y y' : Fin b} {z z' : Fin d} (h : x.val = x'.val) (h' : y.val = y'.val)
    (h'' : z.val = z'.val) : ix3 x y z = ix3 x' y' z' := by
  rw [Fin.ext h, Fin.ext h', Fin.ext h'']

theorem query_lanes (hh : Fin 2) (ρ : Fin 1024) (d : Fin 128) :
    (iblk m c 0 t : Vec Ideal S1024x256 .bf16) (ix2 ρ ⟨128 * hh.val + d.val, by omega⟩)
      = lanes (fun d => a0 m c (ix4 (bt t) (at_ t ρ) (head t hh) d)) (fun d => a1 m c (ix4 (bt t) (at_ t ρ) (head t hh) d)) d := by
  have hq := qi_lt t
  have hb := (bt t).isLt
  have hh' := hh.isLt
  have hd := d.isLt
  have hr := ρ.isLt
  rw [iblk0_apply, q_apply]
  have e0 : (4096 * (bt t).val + 1024 * qi t + ρ.val) / 4096 = (bt t).val := by omega
  have e1 : (4096 * (bt t).val + 1024 * qi t + ρ.val) % 4096 = 1024 * qi t + ρ.val := by omega
  have e2 : (256 * (hp t).val + (128 * hh.val + d.val)) / 128 = 2 * (hp t).val + hh.val := by omega
  have e3 : (⟨(256 * (hp t).val + (128 * hh.val + d.val)) % 128, by omega⟩ : Fin 128) = d := Fin.ext (by show _ % 128 = d.val; omega)
  refine (congrArg (lanes _ _) e3).trans (congrArg₂ (fun f g => lanes f g d) (funext fun d => congrArg (a0 m c) (ix4_congr e0 e1 e2 rfl))
    (funext fun d => congrArg (a1 m c) (ix4_congr e0 e1 e2 rfl)))

theorem key_lanes (hh : Fin 2) (k : ℕ) (d : Fin 128) :
    row (iblk m c 1 t) hh k d
      = lanes (fun d => a2 m c (ix4 (bt t) (Ref.pos k) (head t hh) d)) (fun d => a3 m c (ix3 (bt t) (Ref.pos k) d)) d := by
  have hb := (bt t).isLt
  have hh' := hh.isLt
  have hd := d.isLt
  have hk := Nat.mod_lt k (show 0 < 4096 by norm_num)
  unfold row
  rw [iblk1_apply, k_apply]
  have e0 : (4096 * (bt t).val + k % 4096) / 4096 = (bt t).val := by omega
  have e1 : (4096 * (bt t).val + k % 4096) % 4096 = k % 4096 := by omega
  have e2 : (256 * (hp t).val + (128 * hh.val + d.val)) / 128 = 2 * (hp t).val + hh.val := by omega
  have e3 : (⟨(256 * (hp t).val + (128 * hh.val + d.val)) % 128, by omega⟩ : Fin 128) = d := Fin.ext (by show _ % 128 = d.val; omega)
  refine (congrArg (lanes _ _) e3).trans (congrArg₂ (fun f g => lanes f g d) (funext fun d => congrArg (a2 m c) (ix4_congr e0 e1 e2 rfl))
    (funext fun d => congrArg (a3 m c) (ix3_congr e0 e1 rfl)))

theorem value_row (hh : Fin 2) (k : ℕ) (d : Fin 64) :
    row (iblk m c 2 t) hh k ⟨d.val, by omega⟩ = a4 m c (ix4 (bt t) (Ref.pos k) (head t hh) d) := by
  have hb := (bt t).isLt
  have hh' := hh.isLt
  have hd := d.isLt
  have hk := Nat.mod_lt k (show 0 < 4096 by norm_num)
  unfold row
  rw [iblk2_apply, v_apply _ _ _ _ (by show (256 * (hp t).val + (128 * hh.val + d.val)) % 128 < 64; omega)]
  refine congrArg (a4 m c) (ix4_congr ?_ ?_ ?_ ?_)
  · show (4096 * (bt t).val + k % 4096) / 4096 = (bt t).val; omega
  · show (4096 * (bt t).val + k % 4096) % 4096 = k % 4096; omega
  · show (256 * (hp t).val + (128 * hh.val + d.val)) / 128 = 2 * (hp t).val + hh.val; omega
  · show (256 * (hp t).val + (128 * hh.val + d.val)) % 128 = d.val; omega

variable {m c}

/-- The kernel's logits are the reference's over log 2. -/
theorem logit_eq (hfin : Finite m c) (hh : Fin 2) (ρ : Fin 1024) (k : ℕ) :
    blockLogit (iblk m c 0 t) (iblk m c 1 t) (qi t) hh ρ k
      = Ref.logit (a0 m c) (a1 m c) (a2 m c) (a3 m c) (bt t) (head t hh) (at_ t ρ) k * (invLog2 : EReal) := by
  obtain ⟨⟨g0, h0⟩, ⟨g1, h1⟩, ⟨g2, h2⟩, ⟨g3, h3⟩⟩ := hfin
  unfold blockLogit Ref.logit
  by_cases hk : k ≤ 1024 * qi t + ρ.val
  · rw [if_pos hk, if_pos (show k ≤ (at_ t ρ).val from hk)]
    simp only [query_lanes, key_lanes]
    exact scaled _ _ _ _ ⟨_, fun d => h0 _⟩ ⟨_, fun d => h2 _⟩ ⟨_, fun d => h1 _⟩ ⟨_, fun d => h3 _⟩
  · rw [if_neg hk, if_neg (show ¬ k ≤ (at_ t ρ).val from hk), EReal.bot_mul_coe_of_pos invLog2_pos]

/-- A quotient the kernel ends with is the reference's softmax average. -/
theorem quot_eq (hfin : Finite m c) (hh : Fin 2) (ρ : Fin 1024) (d : Fin 64) :
    quot (iblk m c 0 t) (iblk m c 1 t) (iblk m c 2 t) (qi t) hh ρ ⟨d.val, by omega⟩
      = Ref.average (a0 m c) (a1 m c) (a2 m c) (a3 m c) (a4 m c) (bt t) (head t hh) (at_ t ρ) d := by
  unfold quot
  rw [show blockLogit (iblk m c 0 t) (iblk m c 1 t) (qi t) hh ρ = _ from funext (logit_eq t hfin hh ρ)]
  simp only [value_row]
  obtain ⟨⟨g0, h0⟩, ⟨g1, h1⟩, ⟨g2, h2⟩, ⟨g3, h3⟩⟩ := hfin
  have hr : ∀ k, ∃ r : ℝ, Ref.product (a0 m c) (a1 m c) (a2 m c) (a3 m c) (bt t) (head t hh) (at_ t ρ) k * Ref.scale = (r : EReal) := fun k =>
    product_real _ _ _ _ ⟨_, fun d => h0 _⟩ ⟨_, fun d => h2 _⟩ ⟨_, fun d => h1 _⟩ ⟨_, fun d => h3 _⟩
  refine quotient_eq _ (fun k _ => ?_) ⟨0, by norm_num, ?_⟩
  · unfold Ref.logit
    obtain ⟨r, h⟩ := hr k
    split
    · rw [h]; exact EReal.coe_ne_top r
    · exact bot_ne_top
  · unfold Ref.logit
    obtain ⟨r, h⟩ := hr 0
    rw [if_pos (Nat.zero_le _), h]
    exact EReal.coe_ne_bot r

/-- The reference's array of a memory's arguments. -/
def G (m : (ℓ : Loc nD τ sig) → Buf (Elt Ideal) ℓ) (c : Dev nD) : FVec Ideal S8192x512 .bf16 :=
  Cert.AttnRefIdeal.Read.val_main_v27 (F := Ideal) (a0 m c) (a1 m c) (a2 m c) (a3 m c) (a4 m c)

theorem outs_eq_G (hfin : Finite m c) (ρ : Fin 1024) (e : Fin 128) :
    (outsAt0 m c t : Vec Ideal S1024x128 .bf16) (ix2 ρ e)
      = G m c (ix2 ⟨4096 * (bt t).val + 1024 * qi t + ρ.val, by have := qi_lt t; have := (bt t).isLt; omega⟩
          ⟨128 * (hp t).val + e.val, by have := (hp t).isLt; omega⟩) := by
  have hq := qi_lt t
  have hb := (bt t).isLt
  have he := e.isLt
  have hr := ρ.isLt
  unfold G
  rw [outs_apply]
  refine (quot_eq t hfin _ ρ ⟨e.val % 64, by omega⟩).trans ((Ref.v27_apply _ _ _ _ _ _ _).trans ?_).symm
  have e0 : (⟨(4096 * (bt t).val + 1024 * qi t + ρ.val) / 4096, by omega⟩ : Fin 2) = bt t := Fin.ext (by show _ / 4096 = (bt t).val; omega)
  have e1 : (⟨(128 * (hp t).val + e.val) / 64, by omega⟩ : Fin 8) = head t ⟨e.val / 64, by omega⟩ :=
    Fin.ext (by show (128 * (hp t).val + e.val) / 64 = 2 * (hp t).val + e.val / 64; omega)
  have e2 : (⟨(4096 * (bt t).val + 1024 * qi t + ρ.val) % 4096, by omega⟩ : Fin 4096) = at_ t ρ :=
    Fin.ext (by show (4096 * (bt t).val + 1024 * qi t + ρ.val) % 4096 = 1024 * qi t + ρ.val; omega)
  have e3 : (⟨(128 * (hp t).val + e.val) % 64, by omega⟩ : Fin 64) = ⟨e.val % 64, by omega⟩ := Fin.ext (by show _ % 64 = e.val % 64; omega)
  rw [e0, e1, e2, e3]

theorem idx_eta (y : S1024x128.Idx) : y = ix2 (y 0) (y 1) := by
  funext a; match a with | ⟨0, _⟩ => rfl | ⟨1, _⟩ => rfl

/-- The kernel's array after the run. -/
theorem array_eq (hfin : Finite m c) : (dats m 0 c).arrAt 3 cfg0.N = G m c := by
  refine (dats m 0 c).arrAt_eq_of_covers 3 _ (by decide +kernel) fun t hf y => ?_
  have h := (idx_facts t).2.2.2
  have hq := outs_eq_G t hfin (y 0) (y 1)
  have hy := congrArg (outsAt0 m c t : Vec Ideal S1024x128 .bf16) (idx_eta y)
  blk_simp
  rw [after0_3]
  refine (hy.trans hq).trans ?_
  unfold bt hp qi
  blk_ext [h]

end Cert.Own.Tie

end
-- ==== Proof.Pre.lean ====
module
public import proofs.«01_k».proof.Defs
public import proofs.«01_k».proof.Proof.Gen.Pre_finite_qk
public import proofs.«01_k».proof.Proof.Tie
@[expose] public section

/-!
# The precondition, read

The predicate compares absolute values with +∞: what it says is that the queries and the keys are real numbers.
-/

noncomputable section

namespace Cert.Own.Pre

open Idealize.ShloMosaic Idealize.ShloMosaic.TcCoe Cert.AttnIdeal Cert.Own.Tie

/-- An extended real whose absolute value is below +∞ is a real number. -/
theorem real_of_olt (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have htop : Ideal.ofBits .f32 0x7F800000#32 = ⊤ := by simp [Ideal.ofBits, Ideal.ieee]
  have h' : Ideal.cmp .olt (max x (-x)) (Ideal.ofBits .f32 0x7F800000#32) = 1#1 := h
  rw [htop] at h'
  induction x with
  | bot => simp [Ideal.cmp] at h'
  | top => simp [Ideal.cmp] at h'
  | coe r => exact ⟨r, rfl⟩

/-- An array every entry of which passes the comparison has real entries. -/
theorem allReal_of_olt {ι : Type} (x : ι → EReal)
    (h : ∀ i, FloatOps.cmpf (F := Ideal) (φ := .f32) .olt (FloatOps.hostAbsf (F := Ideal) (φ := .f32) (x i))
      (FloatOps.ofBits (F := Ideal) .f32 0x7F800000#32) = 1#1) : AllReal x := by
  choose g hg using fun i => real_of_olt (x i) (h i)
  exact ⟨g, hg⟩

/-- The precondition makes the queries and the keys real on every device. -/
theorem finite_of_pre (m : (ℓ : Loc nD τ sig) → Buf (Elt Ideal) ℓ)
    (h : Cert.Pre_AttnIdeal_finite_qk (hPre_finite_qk := Cert.Pre_finite_qk.Gen.facts) m) (c : Dev nD) : Finite m c :=
  ⟨allReal_of_olt _ fun i => congrFun (h c).1 i, allReal_of_olt _ fun i => congrFun (h c).2.1 i,
    allReal_of_olt _ fun i => congrFun (h c).2.2.1 i, allReal_of_olt _ fun i => congrFun (h c).2.2.2 i⟩

end Cert.Own.Pre

end
-- ==== Proof.ProjCols.lean ====
module
public import Idealize.ShloMosaic.Lib.Pipeline.ValueKit
public import Idealize.ShloMosaic.Lib.Claim
@[expose] public section

/-!
# The column order of the input projection

The kernel multiplies by a packed copy of the projection's matrix: the eleven parts stand in another order, the heads
of 64 lanes are each followed by 64 zero columns, the shared rotary key stands in lanes 64 to 95 of a group of 128, and
a second group of 128 holds it turned by a quarter. `arr` is that order, of any row of 6304 numbers. A weighted sum of
rows in that order is the weighted sum of the rows, in that order.
-/

set_option maxRecDepth 16384

noncomputable section

namespace Cert.Own.Cols

/-- Two pieces end to end. -/
def cat {a b : Nat} (f : Fin a → EReal) (g : Fin b → EReal) (n : Fin (a + b)) : EReal :=
  if h : n.val < a then f ⟨n.val, h⟩ else g ⟨n.val - a, by omega⟩

/-- `b` columns from column `o`. -/
def part (u : Fin 6304 → EReal) (o b : Nat) (h : o + b ≤ 6304) (e : Fin b) : EReal := u ⟨o + e.val, by omega⟩

/-- Heads of 64 lanes, each followed by 64 zeros. -/
def heads {b : Nat} (f : Fin (64 * b) → EReal) (e : Fin (128 * b)) : EReal :=
  if h' : e.val / 128 < b ∧ e.val % 128 < 64 then f ⟨e.val / 128 * 64 + e.val % 128, by omega⟩ else 0

/-- 32 columns in lanes 64 to 95 of 128. -/
def place (f : Fin 32 → EReal) (e : Fin 128) : EReal :=
  if h : 64 ≤ e.val ∧ e.val - 64 < 32 then f ⟨e.val - 64, by omega⟩ else 0

/-- The second half with its sign changed, then the first half. -/
def turned (f : Fin 32 → EReal) (e : Fin 32) : EReal :=
  if h : e.val < 16 then -f ⟨16 + e.val, by omega⟩ else f ⟨e.val - 16, by omega⟩

/-- Twelve pieces end to end. -/
def chain (p1 p2 p3 p4 : Fin 512 → EReal) (p5 : Fin 1024 → EReal) (p6 : Fin 3072 → EReal) (p7 p8 p9 : Fin 256 → EReal)
    (p10 p11 p12 : Fin 128 → EReal) : Fin 7296 → EReal :=
  cat p1 (cat p2 (cat p3 (cat p4 (cat p5 (cat p6 (cat p7 (cat p8 (cat p9 (cat p10 (cat p11 p12))))))))))

/-- A row in the kernel's order. -/
def arr (u : Fin 6304 → EReal) : Fin 7296 → EReal :=
  chain (part u 0 512 (by decide)) (part u 512 512 (by decide)) (part u 1024 512 (by decide)) (part u 1536 512 (by decide))
    (heads (b := 8) (part u 2464 512 (by decide))) (part u 3232 3072 (by decide)) (part u 2048 256 (by decide))
    (heads (b := 2) (part u 2976 128 (by decide))) (heads (b := 2) (part u 3104 128 (by decide))) (part u 2304 128 (by decide))
    (place (part u 2432 32 (by decide))) (place (turned (part u 2432 32 (by decide))))

variable {K : Nat} (h : Fin K → EReal) (w : Fin K → Fin 6304 → EReal)

theorem cat_sum {a b : Nat} (f : Fin K → Fin a → EReal) (g : Fin K → Fin b → EReal) (n : Fin (a + b)) :
    ∑ k, h k * cat (f k) (g k) n = cat (fun e => ∑ k, h k * f k e) (fun e => ∑ k, h k * g k e) n := by
  unfold cat
  by_cases hn : n.val < a
  · simp only [dif_pos hn]
  · simp only [dif_neg hn]

theorem part_sum (o b : Nat) (hb : o + b ≤ 6304) (e : Fin b) :
    ∑ k, h k * part (w k) o b hb e = part (fun c => ∑ k, h k * w k c) o b hb e := rfl

theorem heads_sum {b : Nat} (f : Fin K → Fin (64 * b) → EReal) (e : Fin (128 * b)) :
    ∑ k, h k * heads (f k) e = heads (fun e => ∑ k, h k * f k e) e := by
  unfold heads
  by_cases he : e.val / 128 < b ∧ e.val % 128 < 64
  · simp only [dif_pos he]
  · simp only [dif_neg he, mul_zero, Finset.sum_const_zero]

theorem place_sum (f : Fin K → Fin 32 → EReal) (e : Fin 128) :
    ∑ k, h k * place (f k) e = place (fun e => ∑ k, h k * f k e) e := by
  unfold place
  by_cases he : 64 ≤ e.val ∧ e.val - 64 < 32
  · simp only [dif_pos he]
  · simp only [dif_neg he, mul_zero, Finset.sum_const_zero]

/-- A sum of reals is a real. -/
theorem coe_sum (f : Fin K → ℝ) : ∑ i, (f i : EReal) = ((∑ i, f i : ℝ) : EReal) := by
  have h : ∀ s : Finset (Fin K), ∑ i ∈ s, (f i : EReal) = ((∑ i ∈ s, f i : ℝ) : EReal) := by
    intro s
    induction s using Finset.cons_induction with
    | empty => simp
    | cons a s ha ih => rw [Finset.sum_cons, Finset.sum_cons, ih, EReal.coe_add]
  exact h _

/-- A sum of reals changes sign term by term. -/
theorem sum_neg {a b : Fin K → EReal} (ha : ∀ k, ∃ r : ℝ, a k = r) (hb : ∀ k, ∃ r : ℝ, b k = r) :
    ∑ k, a k * -b k = -∑ k, a k * b k := by
  choose a' ha using ha
  choose b' hb using hb
  obtain rfl : a = fun k => (a' k : EReal) := funext ha
  obtain rfl : b = fun k => (b' k : EReal) := funext hb
  simp only [← EReal.coe_neg, ← EReal.coe_mul, coe_sum]
  simp

theorem turned_sum {f : Fin K → Fin 32 → EReal} (hh : ∀ k, ∃ r : ℝ, h k = r) (hf : ∀ k e, ∃ r : ℝ, f k e = r) (e : Fin 32) :
    ∑ k, h k * turned (f k) e = turned (fun e => ∑ k, h k * f k e) e := by
  unfold turned
  by_cases he : e.val < 16
  · simp only [dif_pos he]
    exact sum_neg hh fun k => hf k _
  · simp only [dif_neg he]

/-- The weighted sum of rows in the kernel's order. -/
theorem arr_sum (hh : ∀ k, ∃ r : ℝ, h k = r) (hw : ∀ k c, ∃ r : ℝ, w k c = r) (n : Fin 7296) :
    ∑ k, h k * arr (w k) n = arr (fun c => ∑ k, h k * w k c) n := by
  have ht := turned_sum h hh (f := fun k => part (w k) 2432 32 (by decide)) fun k e => hw k _
  unfold arr chain
  refine (cat_sum (a := 512) (b := 6784) h _ _ n).trans ?_
  simp only [cat_sum, part_sum, heads_sum, place_sum, ht]

end Cert.Own.Cols
-- ==== Proof.ProjInput.lean ====
module
public import proofs.«01_k».proof.Proof.ProjCols
public import proofs.«01_k».proof.Proof.Gen.ProjIdeal.Value
public import Idealize.ShloMosaic.Lib.Pipeline.ValueKit
public import Idealize.ShloMosaic.Lib.Claim
@[expose] public section

/-!
# The arrays the input projection reads

The host lays the matrix's columns out in the kernel's order, and the rows of the two sequences end to end.
-/

set_option maxRecDepth 16384

noncomputable section

namespace Cert.Own.ProjInput

open Idealize.ShloMosaic Idealize.ShloMosaic.TcCoe Idealize.ShloMosaic.Tactic
open Cert.ProjIdeal Cert.ProjIdeal.Gen Cert.Own.Cols

variable (m : (ℓ : Loc nD τ sig) → Buf (Elt Ideal) ℓ) (c : Dev nD) (t : Fin cfg0.N)

/-- The arguments. -/
def x : FVec Ideal S2x4096x1024 .f32 := m ((c : Thread nD τ).loc main_arg0)
def g : FVec Ideal S1024 .f32 := m ((c : Thread nD τ).loc main_arg1)
def w : FVec Ideal S1024x6304 .f32 := m ((c : Thread nD τ).loc main_arg2)

/-- Twelve pieces end to end, at an index. -/
theorem packed_apply (p1 p2 p3 p4 : FVec Ideal S1x1024x512 .f32) (p5 : FVec Ideal S1x1024x1024 .f32) (p6 : FVec Ideal S1x1024x3072 .f32)
    (p7 p8 p9 : FVec Ideal S1x1024x256 .f32) (p10 p11 p12 : FVec Ideal S1x1024x128 .f32) (h) (k : Fin 1024) (n : Fin 7296) :
    (shapeCast S1024x7296 (truncf .bf16 (concatenate S1x1024x7296 2 [⟨S1x1024x512, p1⟩, ⟨S1x1024x512, p2⟩, ⟨S1x1024x512, p3⟩, ⟨S1x1024x512, p4⟩,
        ⟨S1x1024x1024, p5⟩, ⟨S1x1024x3072, p6⟩, ⟨S1x1024x256, p7⟩, ⟨S1x1024x256, p8⟩, ⟨S1x1024x256, p9⟩, ⟨S1x1024x128, p10⟩,
        ⟨S1x1024x128, p11⟩, ⟨S1x1024x128, p12⟩] h) bitsLt_bf16_f32) shapeCasts_S1x1024x7296_S1024x7296 : FVec Ideal S1024x7296 .bf16) (ix2 k n)
      = chain (fun e => p1 (ix3 0 k e)) (fun e => p2 (ix3 0 k e)) (fun e => p3 (ix3 0 k e)) (fun e => p4 (ix3 0 k e)) (fun e => p5 (ix3 0 k e))
          (fun e => p6 (ix3 0 k e)) (fun e => p7 (ix3 0 k e)) (fun e => p8 (ix3 0 k e)) (fun e => p9 (ix3 0 k e)) (fun e => p10 (ix3 0 k e))
          (fun e => p11 (ix3 0 k e)) (fun e => p12 (ix3 0 k e)) n := by
  pointwise
  rfl

/-- The lines before the last stretch. -/
abbrev earlyOps : List (HloOp τ sig (Elt Ideal)) :=
  List.flatten [hostOps0, hostOps0_1, hostOps0_2, hostOps0_3, hostOps0_4, hostOps0_5, hostOps0_6, hostOps0_7, hostOps0_8, hostOps0_9]

/-- What they leave. -/
def early : Valuation τ sig (Elt Ideal) := StableHlo.after earlyOps (fun b => m (c, b))

theorem after_app (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => exact ih _

/-- The host's lines are those before the last stretch, then the last stretch. -/
theorem V_eq (b : Ref sig .tc) : Gen.V m c b = StableHlo.after hostOps0_10 (early m c) b :=
  congrFun (after_app earlyOps hostOps0_10 (fun b => m (c, b))) b

/-- The last stretch joins the twelve pieces. -/
theorem last (U : Valuation τ sig (Elt Ideal)) : (StableHlo.after hostOps0_10 U main_v29 : Vec Ideal S1024x7296 .bf16)
    = (shapeCast S1024x7296 (truncf .bf16 (concatenate S1x1024x7296 2 [⟨S1x1024x512, (U main_v1 : FVec Ideal S1x1024x512 .f32)⟩, ⟨S1x1024x512, (U main_v2 : FVec Ideal S1x1024x512 .f32)⟩, ⟨S1x1024x512, (U main_v3 : FVec Ideal S1x1024x512 .f32)⟩, ⟨S1x1024x512, (U main_v4 : FVec Ideal S1x1024x512 .f32)⟩,
        ⟨S1x1024x1024, (U main_v14 : FVec Ideal S1x1024x1024 .f32)⟩, ⟨S1x1024x3072, (U main_v11 : FVec Ideal S1x1024x3072 .f32)⟩, ⟨S1x1024x256, (U main_v5 : FVec Ideal S1x1024x256 .f32)⟩, ⟨S1x1024x256, (U main_v17 : FVec Ideal S1x1024x256 .f32)⟩, ⟨S1x1024x256, (U main_v20 : FVec Ideal S1x1024x256 .f32)⟩, ⟨S1x1024x128, (U main_v6 : FVec Ideal S1x1024x128 .f32)⟩,
        ⟨S1x1024x128, (U main_v21 : FVec Ideal S1x1024x128 .f32)⟩, ⟨S1x1024x128, (U main_v26 : FVec Ideal S1x1024x128 .f32)⟩] concatenates_S1x1024x512_S1x1024x512_S1x1024x512_S1x1024x512_S1x1024x1024_S1x1024x3072_S1x1024x256_S1x1024x256_S1x1024x256_S1x1024x128_S1x1024x128_S1x1024x128_S1x1024x7296_d2) bitsLt_bf16_f32) shapeCasts_S1x1024x7296_S1024x7296 : FVec Ideal S1024x7296 .bf16) := by
  after_results
  rfl

/-! ## The pieces -/

/-- The matrix with a leading axis of one. -/
abbrev one (a : FVec Ideal S1024x6304 .f32) : FVec Ideal S1x1024x6304 .f32 := broadcastInDim S1x1024x6304 ![1, 2] bcast_S1024x6304_S1x1024x6304_1_2 a

/-- Zero, as the host's conversion of the integer. -/
abbrev zero : FVec Ideal S_ .f32 := sitofp .f32 (constantI S_ 32 0#32)

theorem zero_eq (i : S_.Idx) : (zero i : EReal) = 0 := by
  pointwise
  show ((BitVec.toInt 0#32 : ℝ) : EReal) = 0
  simp

variable (a : FVec Ideal S1024x6304 .f32) (k : Fin 1024)

theorem p1 : (fun e => (extractStridedSlice S1x1024x512 ![0, 0, 0] (one a) slices_S1x1024x6304_S1x1024x512_0_0_0) (ix3 0 k e)) = part (fun j => a (ix2 k j)) 0 512 (by decide) := by
  funext e
  pointwise
  exact congrArg (fun j => a (ix2 k j)) (Fin.ext (Nat.zero_add _).symm)

theorem p2 : (fun e => (extractStridedSlice S1x1024x512 ![0, 0, 512] (one a) slices_S1x1024x6304_S1x1024x512_0_0_512) (ix3 0 k e)) = part (fun j => a (ix2 k j)) 512 512 (by decide) := by
  funext e
  pointwise
  rfl

theorem p3 : (fun e => (extractStridedSlice S1x1024x512 ![0, 0, 1024] (one a) slices_S1x1024x6304_S1x1024x512_0_0_1024) (ix3 0 k e)) = part (fun j => a (ix2 k j)) 1024 512 (by decide) := by
  funext e
  pointwise
  rfl

theorem p4 : (fun e => (extractStridedSlice S1x1024x512 ![0, 0, 1536] (one a) slices_S1x1024x6304_S1x1024x512_0_0_1536) (ix3 0 k e)) = part (fun j => a (ix2 k j)) 1536 512 (by decide) := by
  funext e
  pointwise
  rfl

theorem p6 : (fun e => (extractStridedSlice S1x1024x3072 ![0, 0, 3232] (one a) slices_S1x1024x6304_S1x1024x3072_0_0_3232) (ix3 0 k e)) = part (fun j => a (ix2 k j)) 3232 3072 (by decide) := by
  funext e
  pointwise
  rfl

theorem p7 : (fun e => (extractStridedSlice S1x1024x256 ![0, 0, 2048] (one a) slices_S1x1024x6304_S1x1024x256_0_0_2048) (ix3 0 k e)) = part (fun j => a (ix2 k j)) 2048 256 (by decide) := by
  funext e
  pointwise
  rfl

theorem p10 : (fun e => (extractStridedSlice S1x1024x128 ![0, 0, 2304] (one a) slices_S1x1024x6304_S1x1024x128_0_0_2304) (ix3 0 k e)) = part (fun j => a (ix2 k j)) 2304 128 (by decide) := by
  funext e
  pointwise
  rfl

theorem spread8 (q : FVec Ideal S1x1024x512 .f32) : (fun e => shapeCast S1x1024x1024 (pad S1x1024x8x128 ![0, 0, 0, 0] ![0, 0, 0, 64] ![0, 0, 0, 0]
        (shapeCast S1x1024x8x64 q shapeCasts_S1x1024x512_S1x1024x8x64) zero
        pads_S1x1024x8x64_S1x1024x8x128_000_000_000_0640 h_S_) shapeCasts_S1x1024x8x128_S1x1024x1024 (ix3 0 k e))
      = heads (b := 8) (fun e => q (ix3 0 k e)) := by
  funext e
  have hz := zero_eq
  generalize zero = z at hz
  pointwise
  rw [hz]
  rfl

theorem spread2 (q : FVec Ideal S1x1024x128 .f32) : (fun e => shapeCast S1x1024x256 (pad S1x1024x2x128 ![0, 0, 0, 0] ![0, 0, 0, 64] ![0, 0, 0, 0]
        (shapeCast S1x1024x2x64 q shapeCasts_S1x1024x128_S1x1024x2x64) zero
        pads_S1x1024x2x64_S1x1024x2x128_000_000_000_0640 h_S_) shapeCasts_S1x1024x2x128_S1x1024x256 (ix3 0 k e))
      = heads (b := 2) (fun e => q (ix3 0 k e)) := by
  funext e
  have hz := zero_eq
  generalize zero = z at hz
  pointwise
  rw [hz]
  rfl

theorem p5 : (fun e => (extractStridedSlice S1x1024x512 ![0, 0, 2464] (one a) slices_S1x1024x6304_S1x1024x512_0_0_2464) (ix3 0 k e)) = part (fun j => a (ix2 k j)) 2464 512 (by decide) := by
  funext e
  pointwise
  rfl

theorem p8 : (fun e => (extractStridedSlice S1x1024x128 ![0, 0, 2976] (one a) slices_S1x1024x6304_S1x1024x128_0_0_2976) (ix3 0 k e)) = part (fun j => a (ix2 k j)) 2976 128 (by decide) := by
  funext e
  pointwise
  rfl

theorem p9 : (fun e => (extractStridedSlice S1x1024x128 ![0, 0, 3104] (one a) slices_S1x1024x6304_S1x1024x128_0_0_3104) (ix3 0 k e)) = part (fun j => a (ix2 k j)) 3104 128 (by decide) := by
  funext e
  pointwise
  rfl

theorem placed (q : FVec Ideal S1x1024x32 .f32) : (fun e => pad S1x1024x128 ![0, 0, 64] ![0, 0, 32] ![0, 0, 0] q zero pads_S1x1024x32_S1x1024x128_000_000_64320 h_S_ (ix3 0 k e))
      = place (fun e => q (ix3 0 k e)) := by
  funext e
  have hz := zero_eq
  generalize zero = z at hz
  pointwise
  rw [hz]
  unfold place
  rfl

theorem krt : (fun e => (extractStridedSlice S1x1024x32 ![0, 0, 2432] (one a) slices_S1x1024x6304_S1x1024x32_0_0_2432) (ix3 0 k e)) = part (fun j => a (ix2 k j)) 2432 32 (by decide) := by
  funext e
  pointwise
  rfl

theorem turn (q : FVec Ideal S1x1024x32 .f32) : (fun e => concatenate S1x1024x32 2 [⟨S1x1024x16, negf (extractStridedSlice S1x1024x16 ![0, 0, 16] q slices_S1x1024x32_S1x1024x16_0_0_16)⟩,
        ⟨S1x1024x16, extractStridedSlice S1x1024x16 ![0, 0, 0] q slices_S1x1024x32_S1x1024x16_0_0_0⟩] concatenates_S1x1024x16_S1x1024x16_S1x1024x32_d2 (ix3 0 k e))
      = turned (fun e => q (ix3 0 k e)) := by
  funext e
  pointwise
  rfl

/-- The heads of 64 lanes spread to 128, as the host computes them. -/
abbrev spreads8 (q : FVec Ideal S1x1024x512 .f32) : FVec Ideal S1x1024x1024 .f32 :=
  shapeCast S1x1024x1024 (pad S1x1024x8x128 ![0, 0, 0, 0] ![0, 0, 0, 64] ![0, 0, 0, 0]
    (shapeCast S1x1024x8x64 q shapeCasts_S1x1024x512_S1x1024x8x64) zero
    pads_S1x1024x8x64_S1x1024x8x128_000_000_000_0640 h_S_) shapeCasts_S1x1024x8x128_S1x1024x1024
abbrev spreads2 (q : FVec Ideal S1x1024x128 .f32) : FVec Ideal S1x1024x256 .f32 :=
  shapeCast S1x1024x256 (pad S1x1024x2x128 ![0, 0, 0, 0] ![0, 0, 0, 64] ![0, 0, 0, 0]
    (shapeCast S1x1024x2x64 q shapeCasts_S1x1024x128_S1x1024x2x64) zero
    pads_S1x1024x2x64_S1x1024x2x128_000_000_000_0640 h_S_) shapeCasts_S1x1024x2x128_S1x1024x256
abbrev places (q : FVec Ideal S1x1024x32 .f32) : FVec Ideal S1x1024x128 .f32 :=
  pad S1x1024x128 ![0, 0, 64] ![0, 0, 32] ![0, 0, 0] q zero pads_S1x1024x32_S1x1024x128_000_000_64320 h_S_
abbrev turns (q : FVec Ideal S1x1024x32 .f32) : FVec Ideal S1x1024x32 .f32 :=
  concatenate S1x1024x32 2 [⟨S1x1024x16, negf (extractStridedSlice S1x1024x16 ![0, 0, 16] q slices_S1x1024x32_S1x1024x16_0_0_16)⟩,
    ⟨S1x1024x16, extractStridedSlice S1x1024x16 ![0, 0, 0] q slices_S1x1024x32_S1x1024x16_0_0_0⟩] concatenates_S1x1024x16_S1x1024x16_S1x1024x32_d2

theorem e_v1 : (early m c main_v1 : FVec Ideal S1x1024x512 .f32) = extractStridedSlice S1x1024x512 ![0, 0, 0] (one (w m c)) slices_S1x1024x6304_S1x1024x512_0_0_0 := by
  dsimp only [early, earlyOps, hostOps0, hostOps0_1, hostOps0_2, hostOps0_3, hostOps0_4, hostOps0_5, hostOps0_6, hostOps0_7, hostOps0_8,
    hostOps0_9, List.flatten_cons, List.flatten_nil, List.cons_append, List.nil_append, List.append_nil]
  after_results
  rfl

theorem e_v2 : (early m c main_v2 : FVec Ideal S1x1024x512 .f32) = extractStridedSlice S1x1024x512 ![0, 0, 512] (one (w m c)) slices_S1x1024x6304_S1x1024x512_0_0_512 := by
  dsimp only [early, earlyOps, hostOps0, hostOps0_1, hostOps0_2, hostOps0_3, hostOps0_4, hostOps0_5, hostOps0_6, hostOps0_7, hostOps0_8,
    hostOps0_9, List.flatten_cons, List.flatten_nil, List.cons_append, List.nil_append, List.append_nil]
  after_results
  rfl

theorem e_v3 : (early m c main_v3 : FVec Ideal S1x1024x512 .f32) = extractStridedSlice S1x1024x512 ![0, 0, 1024] (one (w m c)) slices_S1x1024x6304_S1x1024x512_0_0_1024 := by
  dsimp only [early, earlyOps, hostOps0, hostOps0_1, hostOps0_2, hostOps0_3, hostOps0_4, hostOps0_5, hostOps0_6, hostOps0_7, hostOps0_8,
    hostOps0_9, List.flatten_cons, List.flatten_nil, List.cons_append, List.nil_append, List.append_nil]
  after_results
  rfl

theorem e_v4 : (early m c main_v4 : FVec Ideal S1x1024x512 .f32) = extractStridedSlice S1x1024x512 ![0, 0, 1536] (one (w m c)) slices_S1x1024x6304_S1x1024x512_0_0_1536 := by
  dsimp only [early, earlyOps, hostOps0, hostOps0_1, hostOps0_2, hostOps0_3, hostOps0_4, hostOps0_5, hostOps0_6, hostOps0_7, hostOps0_8,
    hostOps0_9, List.flatten_cons, List.flatten_nil, List.cons_append, List.nil_append, List.append_nil]
  after_results
  rfl

theorem e_v14 : (early m c main_v14 : FVec Ideal S1x1024x1024 .f32) = spreads8 (extractStridedSlice S1x1024x512 ![0, 0, 2464] (one (w m c)) slices_S1x1024x6304_S1x1024x512_0_0_2464) := by
  dsimp only [early, earlyOps, hostOps0, hostOps0_1, hostOps0_2, hostOps0_3, hostOps0_4, hostOps0_5, hostOps0_6, hostOps0_7, hostOps0_8,
    hostOps0_9, List.flatten_cons, List.flatten_nil, List.cons_append, List.nil_append, List.append_nil]
  after_results
  rfl

theorem e_v11 : (early m c main_v11 : FVec Ideal S1x1024x3072 .f32) = extractStridedSlice S1x1024x3072 ![0, 0, 3232] (one (w m c)) slices_S1x1024x6304_S1x1024x3072_0_0_3232 := by
  dsimp only [early, earlyOps, hostOps0, hostOps0_1, hostOps0_2, hostOps0_3, hostOps0_4, hostOps0_5, hostOps0_6, hostOps0_7, hostOps0_8,
    hostOps0_9, List.flatten_cons, List.flatten_nil, List.cons_append, List.nil_append, List.append_nil]
  after_results
  rfl

theorem e_v5 : (early m c main_v5 : FVec Ideal S1x1024x256 .f32) = extractStridedSlice S1x1024x256 ![0, 0, 2048] (one (w m c)) slices_S1x1024x6304_S1x1024x256_0_0_2048 := by
  dsimp only [early, earlyOps, hostOps0, hostOps0_1, hostOps0_2, hostOps0_3, hostOps0_4, hostOps0_5, hostOps0_6, hostOps0_7, hostOps0_8,
    hostOps0_9, List.flatten_cons, List.flatten_nil, List.cons_append, List.nil_append, List.append_nil]
  after_results
  rfl

theorem e_v17 : (early m c main_v17 : FVec Ideal S1x1024x256 .f32) = spreads2 (extractStridedSlice S1x1024x128 ![0, 0, 2976] (one (w m c)) slices_S1x1024x6304_S1x1024x128_0_0_2976) := by
  dsimp only [early, earlyOps, hostOps0, hostOps0_1, hostOps0_2, hostOps0_3, hostOps0_4, hostOps0_5, hostOps0_6, hostOps0_7, hostOps0_8,
    hostOps0_9, List.flatten_cons, List.flatten_nil, List.cons_append, List.nil_append, List.append_nil]
  after_results
  rfl

theorem e_v20 : (early m c main_v20 : FVec Ideal S1x1024x256 .f32) = spreads2 (extractStridedSlice S1x1024x128 ![0, 0, 3104] (one (w m c)) slices_S1x1024x6304_S1x1024x128_0_0_3104) := by
  dsimp only [early, earlyOps, hostOps0, hostOps0_1, hostOps0_2, hostOps0_3, hostOps0_4, hostOps0_5, hostOps0_6, hostOps0_7, hostOps0_8,
    hostOps0_9, List.flatten_cons, List.flatten_nil, List.cons_append, List.nil_append, List.append_nil]
  after_results
  rfl

theorem e_v6 : (early m c main_v6 : FVec Ideal S1x1024x128 .f32) = extractStridedSlice S1x1024x128 ![0, 0, 2304] (one (w m c)) slices_S1x1024x6304_S1x1024x128_0_0_2304 := by
  dsimp only [early, earlyOps, hostOps0, hostOps0_1, hostOps0_2, hostOps0_3, hostOps0_4, hostOps0_5, hostOps0_6, hostOps0_7, hostOps0_8,
    hostOps0_9, List.flatten_cons, List.flatten_nil, List.cons_append, List.nil_append, List.append_nil]
  after_results
  rfl

theorem e_v21 : (early m c main_v21 : FVec Ideal S1x1024x128 .f32) = places (extractStridedSlice S1x1024x32 ![0, 0, 2432] (one (w m c)) slices_S1x1024x6304_S1x1024x32_0_0_2432) := by
  dsimp only [early, earlyOps, hostOps0, hostOps0_1, hostOps0_2, hostOps0_3, hostOps0_4, hostOps0_5, hostOps0_6, hostOps0_7, hostOps0_8,
    hostOps0_9, List.flatten_cons, List.flatten_nil, List.cons_append, List.nil_append, List.append_nil]
  after_results
  rfl

theorem e_v26 : (early m c main_v26 : FVec Ideal S1x1024x128 .f32) = places (turns (extractStridedSlice S1x1024x32 ![0, 0, 2432] (one (w m c)) slices_S1x1024x6304_S1x1024x32_0_0_2432)) := by
  dsimp only [early, earlyOps, hostOps0, hostOps0_1, hostOps0_2, hostOps0_3, hostOps0_4, hostOps0_5, hostOps0_6, hostOps0_7, hostOps0_8,
    hostOps0_9, List.flatten_cons, List.flatten_nil, List.cons_append, List.nil_append, List.append_nil]
  after_results
  rfl

/-- The packed matrix, at an index. -/
theorem w_eq (n : Fin 7296) : (Gen.V m c main_v29 : Vec Ideal S1024x7296 .bf16) (ix2 k n) = arr (fun j => w m c (ix2 k j)) n := by
  rw [V_eq]
  refine (congrFun (last (early m c)) _).trans ?_
  refine (packed_apply _ _ _ _ _ _ _ _ _ _ _ _ _ k n).trans ?_
  rw [e_v1, e_v2, e_v3, e_v4, e_v14, e_v11, e_v5, e_v17, e_v20, e_v6, e_v21, e_v26]
  unfold arr
  refine congrFun ?_ n
  congr 1
  · exact p1 (w m c) k
  · exact p2 (w m c) k
  · exact p3 (w m c) k
  · exact p4 (w m c) k
  · exact (spread8 k _).trans (congrArg (heads (b := 8)) (p5 (w m c) k))
  · exact p6 (w m c) k
  · exact p7 (w m c) k
  · exact (spread2 k _).trans (congrArg (heads (b := 2)) (p8 (w m c) k))
  · exact (spread2 k _).trans (congrArg (heads (b := 2)) (p9 (w m c) k))
  · exact p10 (w m c) k
  · exact (placed k _).trans (congrArg place (krt (w m c) k))
  · exact (placed k _).trans (congrArg place ((turn k _).trans (congrArg turned (krt (w m c) k))))

/-- The rows of the two sequences, end to end. -/
theorem x_eq (r : Fin 8192) : (Gen.V m c main_v30 : Vec Ideal S8192x1024 .f32) (ix2 r k)
    = x m c (ix3 ⟨r.val / 4096, by omega⟩ ⟨r.val % 4096, by omega⟩ k) := by
  rw [V_eq]
  after_results
  show shapeCast S8192x1024 (x m c) shapeCasts_S2x4096x1024_S8192x1024 (ix2 r k) = _
  pointwise

theorem g_eq : (Gen.V m c main_v31 : Vec Ideal S1x1024 .f32) (ix2 0 k) = g m c (ix1 k) := by
  rw [V_eq]
  after_results
  show shapeCast S1x1024 (g m c) shapeCasts_S1024_S1x1024 (ix2 0 k) = _
  pointwise

end Cert.Own.ProjInput
-- ==== Proof.ProjNorm.lean ====
module
public import proofs.«01_k».proof.Proof.ProjCols
@[expose] public section

/-!
# A normalised row is real

A row is divided by the root of its mean square and multiplied by the gains. If the gains are real, so is every entry,
whatever the row: a row with an infinite entry has an infinite mean square, whose inverse root is zero.
-/

set_option maxRecDepth 16384

noncomputable section

namespace Cert.Own.Norm

open Idealize.ShloMosaic Cert.Own.Cols

/-- A row over the root of its mean square, times the gains. -/
def normed (x g : Fin 1024 → EReal) (k : Fin 1024) : EReal :=
  x k * Ideal.rsqrt (Ideal.div (∑ j, x j * x j) (Ideal.ofBits FTy.f32 1149239296#32) + Ideal.ofBits FTy.f32 897988541#32) * g k

theorem size_eq : Ideal.ofBits FTy.f32 1149239296#32 = ((1024 : ℝ) : EReal) := by
  simp [Ideal.ofBits, Ideal.ieee, -EReal.coe_mul]
  norm_num

theorem eps_eq : ∃ e : ℝ, 0 < e ∧ Ideal.ofBits FTy.f32 897988541#32 = (e : EReal) := by
  refine ⟨_, ?_, by simp [Ideal.ofBits, Ideal.ieee, -EReal.coe_mul]; rfl⟩
  norm_num

theorem sq_nonneg' (a : EReal) : 0 ≤ a * a := by
  induction a with
  | bot => simp
  | top => simp
  | coe r => exact_mod_cast mul_self_nonneg r

theorem inf_sq {a : EReal} (h : ¬∃ r : ℝ, a = r) : a * a = ⊤ := by
  induction a with
  | bot => rfl
  | top => rfl
  | coe r => exact absurd ⟨r, rfl⟩ h

/-- The inverse root of the mean square and the offset, of any row with an infinite entry, is zero. -/
theorem rsqrt_inf {x : Fin 1024 → EReal} {i : Fin 1024} (h : ¬∃ r : ℝ, x i = r) :
    Ideal.rsqrt (Ideal.div (∑ j, x j * x j) (Ideal.ofBits FTy.f32 1149239296#32) + Ideal.ofBits FTy.f32 897988541#32) = 0 := by
  obtain ⟨e, he, heq⟩ := eps_eq
  have hs : ∑ j, x j * x j = ⊤ := by
    refine top_le_iff.1 ?_
    calc (⊤ : EReal) = x i * x i := (inf_sq h).symm
      _ ≤ ∑ j, x j * x j := Finset.single_le_sum (f := fun j => x j * x j) (fun j _ => sq_nonneg' _) (Finset.mem_univ i)
  have hd : Ideal.div ⊤ ((1024 : ℝ) : EReal) = ⊤ := by
    unfold Ideal.div
    rw [if_neg (by norm_num), ← EReal.coe_inv, EReal.top_mul_coe_of_pos (by norm_num)]
  rw [hs, size_eq, hd, heq, EReal.top_add_coe]
  rfl

theorem normed_real {x g : Fin 1024 → EReal} (hg : ∀ k, ∃ r : ℝ, g k = r) (k : Fin 1024) : ∃ r : ℝ, normed x g k = r := by
  unfold normed
  by_cases hx : ∀ j, ∃ r : ℝ, x j = r
  · obtain ⟨e, he, heq⟩ := eps_eq
    obtain ⟨g', hg'⟩ := hg k
    choose x' hx' using hx
    have hd : Ideal.div (∑ j, x j * x j) (Ideal.ofBits FTy.f32 1149239296#32) = (((∑ j, x' j * x' j) * 1024⁻¹ : ℝ) : EReal) := by
      rw [size_eq]
      unfold Ideal.div
      rw [if_neg (by norm_num)]
      simp only [hx', ← EReal.coe_mul, coe_sum, ← EReal.coe_inv]
    have hp : 0 < (∑ j, x' j * x' j) * 1024⁻¹ + e := by
      have : 0 ≤ ∑ j, x' j * x' j := Finset.sum_nonneg fun j _ => mul_self_nonneg _
      positivity
    rw [hd, heq, ← EReal.coe_add, Ideal.rsqrt_coe, if_neg (not_lt.2 hp.le), if_neg hp.ne', hx', hg']
    exact ⟨x' k * (Real.sqrt ((∑ j, x' j * x' j) * 1024⁻¹ + e))⁻¹ * g', by rw [EReal.coe_mul, EReal.coe_mul]⟩
  · obtain ⟨i, hi⟩ := not_forall.1 hx
    rw [rsqrt_inf hi, mul_zero, zero_mul]
    exact ⟨0, rfl⟩

end Cert.Own.Norm
-- ==== Proof.ProjBlock.lean ====
module
public import proofs.«01_k».proof.Proof.ProjInput
public import proofs.«01_k».proof.Proof.ProjNorm
public import Idealize.ShloMosaic.Lib.Pipeline.ReadBack
@[expose] public section

/-!
# What a grid point of the input projection stores

Of each three points the first normalises its 1024 rows and leaves them in the scratch; all three multiply the rows in
the scratch by their block of columns.
-/

set_option maxRecDepth 16384

noncomputable section

namespace Cert.Own.ProjBlock

open Idealize.ShloMosaic Idealize.ShloMosaic.TcCoe Idealize.ShloMosaic.Tactic
open Cert.ProjIdeal Cert.ProjIdeal.Gen Cert.Own.Cols Cert.Own.Norm Cert.Own.ProjInput

variable (m : (ℓ : Loc nD τ sig) → Buf (Elt Ideal) ℓ) (c : Dev nD) (t : Fin cfg0.N)

theorem norm_apply (X : Vec Ideal S1024x1024 .f32) (Y : Vec Ideal S1x1024 .f32) (p k : Fin 1024) :
    (k0_pay1 X Y) (ix2 p k) = normed (fun j => X (ix2 p j)) (fun j => Y (ix2 0 j)) k := by
  pointwise [k0_pay1]
  rfl

theorem dot_apply (X : Vec Ideal S1024x1024 .bf16) (Y : Vec Ideal S1024x2432 .bf16) (p : Fin 1024) (n : Fin 2432) :
    (k0_pay2 X Y) (ix2 p n) = ∑ k : Fin 1024, (show EReal from X (ix2 p k)) * (show EReal from Y (ix2 k n)) := by
  pointwise [k0_pay2]

/-- Where the blocks lie. -/
theorem idx_facts : ∀ t : Fin cfg0.N, win0_0.index t = ![t.val / 3, 0] ∧ win0_1.index t = ![0, 0] ∧ win0_2.index t = ![0, t.val % 3]
    ∧ win0_3.index t = ![t.val / 3, t.val % 3] :=
  (by decide +kernel : ∀ t : Fin grid0.N, _)

theorem t_lt : t.val < 24 := lt_of_lt_of_eq t.isLt N_0

theorem iblk0_apply (p k : Fin 1024) : (iblk m c 0 t : Vec Ideal S1024x1024 .f32) (ix2 p k)
    = (Gen.V m c main_v30 : Vec Ideal S8192x1024 .f32) (ix2 ⟨1024 * (t.val / 3) + p.val, by have := t_lt t; omega⟩ k) := by
  have h := (idx_facts t).1
  blk_ext [iblk, h]

theorem iblk1_apply (k : Fin 1024) : (iblk m c 1 t : Vec Ideal S1x1024 .f32) (ix2 0 k)
    = (Gen.V m c main_v31 : Vec Ideal S1x1024 .f32) (ix2 0 k) := by
  have h := (idx_facts t).2.1
  blk_ext [iblk, h]

theorem iblk2_apply (k : Fin 1024) (n : Fin 2432) : (iblk m c 2 t : Vec Ideal S1024x2432 .bf16) (ix2 k n)
    = (Gen.V m c main_v29 : Vec Ideal S1024x7296 .bf16) (ix2 k ⟨2432 * (t.val % 3) + n.val, by omega⟩) := by
  have h := (idx_facts t).2.2.1
  blk_ext [iblk, h]

theorem scratch_A (h0 : t.val % 3 = 0) : (outsAt0 m c t.val t.isLt).2 = k0_pay1 (iblk m c 0 t) (iblk m c 1 t) := by
  rw [outsAt0_A m c t h0]
  dsimp only
  unfold sout0_A_0
  frame_out

theorem scratch_B (h0 : ¬t.val % 3 = 0) : (outsAt0 m c t.val t.isLt).2 = (outsAt0 m c (t.val - 1) (Nat.lt_of_le_of_lt (Nat.sub_le _ _) t.isLt)).2 := by
  rw [outsAt0_B m c t h0]
  rfl

theorem out_A (h0 : t.val % 3 = 0) : (outsAt0 m c t.val t.isLt).1 = k0_pay2 (k0_pay1 (iblk m c 0 t) (iblk m c 1 t)) (iblk m c 2 t) := by
  rw [outsAt0_A m c t h0]
  dsimp only
  frame_out

theorem out_B (h0 : ¬t.val % 3 = 0) : (outsAt0 m c t.val t.isLt).1
    = k0_pay2 (outsAt0 m c (t.val - 1) (Nat.lt_of_le_of_lt (Nat.sub_le _ _) t.isLt)).2 (iblk m c 2 t) := by
  rw [outsAt0_B m c t h0]
  dsimp only
  frame_out
  rw [read_unread_whole]

/-- Row `r` of the input, of the two sequences end to end. -/
def xrow (r : Fin 8192) (k : Fin 1024) : EReal := x m c (ix3 ⟨r.val / 4096, by omega⟩ ⟨r.val % 4096, by omega⟩ k)

/-- Row `r`, normalised. -/
def hrow (r : Fin 8192) : Fin 1024 → EReal := normed (xrow m c r) (fun k => g m c (ix1 k))

theorem pay1_apply (p k : Fin 1024) : (k0_pay1 (iblk m c 0 t) (iblk m c 1 t)) (ix2 p k)
    = hrow m c ⟨1024 * (t.val / 3) + p.val, by have := t_lt t; omega⟩ k := by
  refine (norm_apply _ _ p k).trans ?_
  unfold hrow
  refine congrFun (congrArg₂ normed (funext fun j => ?_) (funext fun j => ?_)) k
  · exact (iblk0_apply m c t p j).trans (x_eq m c j _)
  · exact (iblk1_apply m c t j).trans (g_eq m c j)

/-- The scratch after every point holds the normalised rows of the point's block. -/
theorem scratch_apply (n : ℕ) (hn : n < cfg0.N) (p k : Fin 1024) : (outsAt0 m c n hn).2 (ix2 p k)
    = hrow m c ⟨1024 * (n / 3) + p.val, by have h := lt_of_lt_of_eq hn N_0; omega⟩ k := by
  induction n with
  | zero => exact (congrFun (scratch_A m c ⟨0, hn⟩ rfl) _).trans (pay1_apply m c ⟨0, hn⟩ p k)
  | succ n ih =>
    by_cases h0 : (n + 1) % 3 = 0
    · exact (congrFun (scratch_A m c ⟨n + 1, hn⟩ h0) _).trans (pay1_apply m c ⟨n + 1, hn⟩ p k)
    · refine (congrFun (scratch_B m c ⟨n + 1, hn⟩ h0) _).trans ((ih (Nat.lt_of_succ_lt hn)).trans ?_)
      have h1 : n / 3 = (n + 1) / 3 := by omega
      simp only [h1]

/-- What a point stores: its rows' products with its block of the packed matrix. -/
theorem out_apply (p : Fin 1024) (n : Fin 2432) : (outsAt0 m c t.val t.isLt).1 (ix2 p n)
    = ∑ k, hrow m c ⟨1024 * (t.val / 3) + p.val, by have := t_lt t; omega⟩ k
        * arr (fun j => w m c (ix2 k j)) ⟨2432 * (t.val % 3) + n.val, by omega⟩ := by
  by_cases h0 : t.val % 3 = 0
  · rw [out_A m c t h0, dot_apply]
    exact Finset.sum_congr rfl fun k _ => congrArg₂ (· * ·) (pay1_apply m c t p k) ((iblk2_apply m c t k n).trans (w_eq m c k _))
  · rw [out_B m c t h0, dot_apply]
    refine Finset.sum_congr rfl fun k _ => congrArg₂ (· * ·) ((scratch_apply m c _ _ p k).trans ?_) ((iblk2_apply m c t k n).trans (w_eq m c k _))
    have h1 : (t.val - 1) / 3 = t.val / 3 := by omega
    simp only [h1]

/-- The array after the run. -/
def G : Buf (Elt Ideal) ((c : Thread nD τ).loc main_v32) := fun i =>
  (∑ k, hrow m c (i 0) k * arr (fun j => w m c (ix2 k j)) (i 1) : EReal)

theorem idx_eta (y : S1024x2432.Idx) : y = ix2 (y 0) (y 1) := by
  funext a; match a with | ⟨0, _⟩ => rfl | ⟨1, _⟩ => rfl

theorem array_eq : (dats m 0 c).arrAt 3 cfg0.N = G m c := by
  refine (dats m 0 c).arrAt_eq_of_covers 3 _ (by decide +kernel) fun t hf y => ?_
  have h := (idx_facts t).2.2.2
  have hq := out_apply m c t (y 0) (y 1)
  have hy := congrArg (outsAt0 m c t.val t.isLt).1 (idx_eta y)
  blk_simp
  rw [after0_3]
  refine (hy.trans hq).trans ?_
  refine congrArg₂ (fun r n => ∑ k, hrow m c r k * arr (fun j => w m c (ix2 k j)) n) ?_ ?_
  · have e : ((win0_3.blk t).view.emb y 0).val = win0_3.index t (0 : Fin 2) * 1024 + 1 * (y 0).val := rfl
    refine Fin.ext (Eq.trans ?_ e.symm)
    rw [h]
    show 1024 * (t.val / 3) + (y 0).val = t.val / 3 * 1024 + 1 * (y 0).val
    omega
  · have e : ((win0_3.blk t).view.emb y 1).val = win0_3.index t (1 : Fin 2) * 2432 + 1 * (y 1).val := rfl
    refine Fin.ext (Eq.trans ?_ e.symm)
    rw [h]
    show 2432 * (t.val % 3) + (y 1).val = t.val % 3 * 2432 + 1 * (y 1).val
    omega

end Cert.Own.ProjBlock
-- ==== Proof.ProjRef.lean ====
module
public import proofs.«01_k».proof.Proof.ProjNorm
public import proofs.«01_k».proof.Proof.Gen.ProjRefIdeal.Read
public import Idealize.ShloMosaic.Lib.Pipeline.ValueKit
public import Idealize.ShloMosaic.Lib.Claim
@[expose] public section

/-!
# The reference of the input projection, at an index

The reference multiplies the normalised rows by the matrix and lays the columns of the product out in the kernel's order.
-/

set_option maxRecDepth 16384

noncomputable section

namespace Cert.Own.ProjRef

open Idealize.ShloMosaic Idealize.ShloMosaic.Tactic
open Cert.ProjRefIdeal Cert.ProjRefIdeal.Gen Cert.ProjRefIdeal.Read Cert.Own.Cols Cert.Own.Norm

/-- Twelve pieces end to end, at an index. -/
theorem packed_apply (p1 p2 p3 p4 : FVec Ideal S2x4096x512 .f32) (p5 : FVec Ideal S2x4096x1024 .f32) (p6 : FVec Ideal S2x4096x3072 .f32)
    (p7 p8 p9 : FVec Ideal S2x4096x256 .f32) (p10 p11 p12 : FVec Ideal S2x4096x128 .f32) (h) (b : Fin 2) (s : Fin 4096) (n : Fin 7296) :
    (concatenate S2x4096x7296 2 [⟨S2x4096x512, p1⟩, ⟨S2x4096x512, p2⟩, ⟨S2x4096x512, p3⟩, ⟨S2x4096x512, p4⟩,
        ⟨S2x4096x1024, p5⟩, ⟨S2x4096x3072, p6⟩, ⟨S2x4096x256, p7⟩, ⟨S2x4096x256, p8⟩, ⟨S2x4096x256, p9⟩, ⟨S2x4096x128, p10⟩,
        ⟨S2x4096x128, p11⟩, ⟨S2x4096x128, p12⟩] h : FVec Ideal S2x4096x7296 .f32) (ix3 b s n)
      = chain (fun e => p1 (ix3 b s e)) (fun e => p2 (ix3 b s e)) (fun e => p3 (ix3 b s e)) (fun e => p4 (ix3 b s e)) (fun e => p5 (ix3 b s e))
          (fun e => p6 (ix3 b s e)) (fun e => p7 (ix3 b s e)) (fun e => p8 (ix3 b s e)) (fun e => p9 (ix3 b s e)) (fun e => p10 (ix3 b s e))
          (fun e => p11 (ix3 b s e)) (fun e => p12 (ix3 b s e)) n := by
  pointwise
  rfl

variable (z : FVec Ideal S2x4096x6304 .f32) (b : Fin 2) (s : Fin 4096)

theorem p1 : (fun e => (extractStridedSlice S2x4096x512 ![0, 0, 0] z slices_S2x4096x6304_S2x4096x512_0_0_0) (ix3 b s e)) = part (fun j => z (ix3 b s j)) 0 512 (by decide) := by
  funext e
  pointwise
  exact congrArg (fun j => z (ix3 b s j)) (Fin.ext (Nat.zero_add _).symm)

theorem p2 : (fun e => (extractStridedSlice S2x4096x512 ![0, 0, 512] z slices_S2x4096x6304_S2x4096x512_0_0_512) (ix3 b s e)) = part (fun j => z (ix3 b s j)) 512 512 (by decide) := by
  funext e
  pointwise
  rfl

theorem p3 : (fun e => (extractStridedSlice S2x4096x512 ![0, 0, 1024] z slices_S2x4096x6304_S2x4096x512_0_0_1024) (ix3 b s e)) = part (fun j => z (ix3 b s j)) 1024 512 (by decide) := by
  funext e
  pointwise
  rfl

theorem p4 : (fun e => (extractStridedSlice S2x4096x512 ![0, 0, 1536] z slices_S2x4096x6304_S2x4096x512_0_0_1536) (ix3 b s e)) = part (fun j => z (ix3 b s j)) 1536 512 (by decide) := by
  funext e
  pointwise
  rfl

theorem p5 : (fun e => (extractStridedSlice S2x4096x512 ![0, 0, 2464] z slices_S2x4096x6304_S2x4096x512_0_0_2464) (ix3 b s e)) = part (fun j => z (ix3 b s j)) 2464 512 (by decide) := by
  funext e
  pointwise
  rfl

theorem p6 : (fun e => (extractStridedSlice S2x4096x3072 ![0, 0, 3232] z slices_S2x4096x6304_S2x4096x3072_0_0_3232) (ix3 b s e)) = part (fun j => z (ix3 b s j)) 3232 3072 (by decide) := by
  funext e
  pointwise
  rfl

theorem p7 : (fun e => (extractStridedSlice S2x4096x256 ![0, 0, 2048] z slices_S2x4096x6304_S2x4096x256_0_0_2048) (ix3 b s e)) = part (fun j => z (ix3 b s j)) 2048 256 (by decide) := by
  funext e
  pointwise
  rfl

theorem p8 : (fun e => (extractStridedSlice S2x4096x128 ![0, 0, 2976] z slices_S2x4096x6304_S2x4096x128_0_0_2976) (ix3 b s e)) = part (fun j => z (ix3 b s j)) 2976 128 (by decide) := by
  funext e
  pointwise
  rfl

theorem p9 : (fun e => (extractStridedSlice S2x4096x128 ![0, 0, 3104] z slices_S2x4096x6304_S2x4096x128_0_0_3104) (ix3 b s e)) = part (fun j => z (ix3 b s j)) 3104 128 (by decide) := by
  funext e
  pointwise
  rfl

theorem p10 : (fun e => (extractStridedSlice S2x4096x128 ![0, 0, 2304] z slices_S2x4096x6304_S2x4096x128_0_0_2304) (ix3 b s e)) = part (fun j => z (ix3 b s j)) 2304 128 (by decide) := by
  funext e
  pointwise
  rfl

theorem krt : (fun e => (extractStridedSlice S2x4096x32 ![0, 0, 2432] z slices_S2x4096x6304_S2x4096x32_0_0_2432) (ix3 b s e)) = part (fun j => z (ix3 b s j)) 2432 32 (by decide) := by
  funext e
  pointwise
  rfl

theorem zeros8 (i : S2x4096x8x64.Idx) :
    (broadcastInDim S2x4096x8x64 ![] bcast_S_S2x4096x8x64 (constant (F := Ideal) S_ .f32 0x00000000#32) i : EReal) = 0 := by
  pointwise

theorem spread8 (q : FVec Ideal S2x4096x512 .f32) (z : FVec Ideal S2x4096x8x64 .f32) (hz : ∀ i, z i = (0 : EReal)) :
    (fun e => shapeCast S2x4096x1024 (concatenate S2x4096x8x128 3 [⟨S2x4096x8x64, shapeCast S2x4096x8x64 q shapeCasts_S2x4096x512_S2x4096x8x64⟩,
        ⟨S2x4096x8x64, z⟩] concatenates_S2x4096x8x64_S2x4096x8x64_S2x4096x8x128_d3) shapeCasts_S2x4096x8x128_S2x4096x1024 (ix3 b s e))
      = heads (b := 8) (fun e => q (ix3 b s e)) := by
  funext e
  pointwise
  have he : e.val / 128 < 8 := by omega
  unfold heads
  by_cases h' : e.val % 128 < 64
  · rw [dif_pos h', dif_pos ⟨he, h'⟩]
  · rw [dif_neg h', dif_neg (fun h => h' h.2)]
    exact hz _

theorem zeros2 (i : S2x4096x2x64.Idx) :
    (broadcastInDim S2x4096x2x64 ![] bcast_S_S2x4096x2x64 (constant (F := Ideal) S_ .f32 0x00000000#32) i : EReal) = 0 := by
  pointwise

theorem spread2 (q : FVec Ideal S2x4096x128 .f32) (z : FVec Ideal S2x4096x2x64 .f32) (hz : ∀ i, z i = (0 : EReal)) :
    (fun e => shapeCast S2x4096x256 (concatenate S2x4096x2x128 3 [⟨S2x4096x2x64, shapeCast S2x4096x2x64 q shapeCasts_S2x4096x128_S2x4096x2x64⟩,
        ⟨S2x4096x2x64, z⟩] concatenates_S2x4096x2x64_S2x4096x2x64_S2x4096x2x128_d3) shapeCasts_S2x4096x2x128_S2x4096x256 (ix3 b s e))
      = heads (b := 2) (fun e => q (ix3 b s e)) := by
  funext e
  pointwise
  have he : e.val / 128 < 2 := by omega
  unfold heads
  by_cases h' : e.val % 128 < 64
  · rw [dif_pos h', dif_pos ⟨he, h'⟩]
  · rw [dif_neg h', dif_neg (fun h => h' h.2)]
    exact hz _

theorem zeros64 (i : S2x4096x64.Idx) :
    (broadcastInDim S2x4096x64 ![] bcast_S_S2x4096x64 (constant (F := Ideal) S_ .f32 0x00000000#32) i : EReal) = 0 := by
  pointwise

theorem zeros32 (i : S2x4096x32.Idx) :
    (broadcastInDim S2x4096x32 ![] bcast_S_S2x4096x32 (constant (F := Ideal) S_ .f32 0x00000000#32) i : EReal) = 0 := by
  pointwise

theorem placed (q u : FVec Ideal S2x4096x32 .f32) (y : FVec Ideal S2x4096x64 .f32) (hu : ∀ i, u i = (0 : EReal)) (hy : ∀ i, y i = (0 : EReal)) :
    (fun e => concatenate S2x4096x128 2 [⟨S2x4096x64, y⟩, ⟨S2x4096x32, q⟩, ⟨S2x4096x32, u⟩]
        concatenates_S2x4096x64_S2x4096x32_S2x4096x32_S2x4096x128_d2 (ix3 b s e))
      = place (fun e => q (ix3 b s e)) := by
  funext e
  pointwise
  unfold place
  by_cases h1 : e.val < 64
  · rw [dif_pos h1, dif_neg (by omega)]
    exact hy _
  · rw [dif_neg h1]
    by_cases h2 : e.val - 64 < 32
    · rw [dif_pos h2, dif_pos ⟨by omega, h2⟩]
    · rw [dif_neg h2, dif_neg (fun h => h2 h.2)]
      exact hu _

theorem turn (q : FVec Ideal S2x4096x32 .f32) :
    (fun e => concatenate S2x4096x32 2 [⟨S2x4096x16, Host.negf (extractStridedSlice S2x4096x16 ![0, 0, 16] q slices_S2x4096x32_S2x4096x16_0_0_16)⟩,
        ⟨S2x4096x16, extractStridedSlice S2x4096x16 ![0, 0, 0] q slices_S2x4096x32_S2x4096x16_0_0_0⟩] concatenates_S2x4096x16_S2x4096x16_S2x4096x32_d2 (ix3 b s e))
      = turned (fun e => q (ix3 b s e)) := by
  funext e
  pointwise
  rfl

variable (x0 : FVec Ideal S2x4096x1024 .f32) (x1 : FVec Ideal S1024 .f32) (x2 : FVec Ideal S1024x6304 .f32)

/-- The normalised rows. -/
theorem norm_eq (k : Fin 1024) : val_main_v12 (F := Ideal) x0 x1 (ix3 b s k)
    = normed (fun j => x0 (ix3 b s j)) (fun j => x1 (ix1 j)) k := by
  pointwise [val_main_v12, val_main_v11, val_main_v10, val_main_v9, val_main_v8, val_main_v7, val_main_v6, val_main_v5, val_main_v4, val_main_v3,
    val_main_v2, val_main_v1, val_main_v0, val_main_cst, val_main_cst_0, val_main_cst_1]
  rfl

/-- The products. -/
theorem z_eq (n : Fin 6304) : val_main_v13 (F := Ideal) x0 x1 x2 (ix3 b s n)
    = ∑ k, normed (fun j => x0 (ix3 b s j)) (fun j => x1 (ix1 j)) k * x2 (ix2 k n) := by
  rw [val_main_v13_apply]
  refine Finset.sum_congr rfl fun k _ => congrArg₂ (· * ·) ?_ ?_
  · refine (congrArg (val_main_v12 (F := Ideal) x0 x1) ?_).trans (norm_eq b s x0 x1 k)
    funext a; fin_cases a <;> rfl
  · refine congrArg x2 ?_
    funext a; fin_cases a <;> rfl

/-- The columns in the kernel's order. -/
theorem arr_eq (n : Fin 7296) : val_main_v47 (F := Ideal) x0 x1 x2 (ix3 b s n)
    = arr (fun j => val_main_v13 (F := Ideal) x0 x1 x2 (ix3 b s j)) n := by
  unfold val_main_v47
  refine (packed_apply _ _ _ _ _ _ _ _ _ _ _ _ _ b s n).trans ?_
  unfold val_main_v14 val_main_v15 val_main_v16 val_main_v17 val_main_v18 val_main_v19 val_main_v24 val_main_v32 val_main_v36 val_main_v40 val_main_v43 val_main_v46
    val_main_v31 val_main_v29 val_main_v21 val_main_v35 val_main_v33 val_main_v22 val_main_v39 val_main_v37 val_main_v23 val_main_v28 val_main_v26 val_main_v25
    val_main_v27 val_main_v20
  generalize val_main_v13 (F := Ideal) x0 x1 x2 = z
  unfold arr
  refine congrFun ?_ n
  congr 1
  · exact p1 z b s
  · exact p2 z b s
  · exact p3 z b s
  · exact p4 z b s
  · exact (spread8 b s _ _ zeros8).trans (congrArg (heads (b := 8)) (p5 z b s))
  · exact p6 z b s
  · exact p7 z b s
  · exact (spread2 b s _ _ zeros2).trans (congrArg (heads (b := 2)) (p8 z b s))
  · exact (spread2 b s _ _ zeros2).trans (congrArg (heads (b := 2)) (p9 z b s))
  · exact p10 z b s
  · exact (placed b s _ _ _ zeros32 zeros64).trans (congrArg place (krt z b s))
  · exact (placed b s _ _ _ zeros32 zeros64).trans (congrArg place ((turn b s _).trans (congrArg turned (krt z b s))))

/-- The reference's result. -/
theorem result_eq (r : Fin 8192) (n : Fin 7296) : (val_main_v49 (F := Ideal) x0 x1 x2 (ix2 r n) : EReal)
    = arr (fun j => ∑ k, normed (fun j => x0 (ix3 ⟨r.val / 4096, by omega⟩ ⟨r.val % 4096, by omega⟩ j)) (fun j => x1 (ix1 j)) k * x2 (ix2 k j)) n := by
  have h : (val_main_v49 (F := Ideal) x0 x1 x2 (ix2 r n) : EReal) = val_main_v47 (F := Ideal) x0 x1 x2 (ix3 ⟨r.val / 4096, by omega⟩ ⟨r.val % 4096, by omega⟩ n) := by
    unfold val_main_v49 val_main_v48
    generalize val_main_v47 (F := Ideal) x0 x1 x2 = y
    pointwise
  rw [h, arr_eq]
  exact congrArg (fun f => arr f n) (funext fun j => z_eq _ _ x0 x1 x2 j)

end Cert.Own.ProjRef
-- ==== Proof.ProjTie.lean ====
module
public import proofs.«01_k».proof.Defs
public import proofs.«01_k».proof.Proof.Gen.Pre_finite_gw
public import proofs.«01_k».proof.Proof.Pre
public import proofs.«01_k».proof.Proof.ProjBlock
public import proofs.«01_k».proof.Proof.ProjRef
@[expose] public section

/-!
# The input projection: kernel and reference agree

The kernel sums products with the laid-out matrix, the reference lays out the sums. The gains and the matrix are real by
the precondition, the normalised rows by the module before, so the two are equal.
-/

noncomputable section

namespace Cert.Own.ProjTie

open Idealize.ShloMosaic Idealize.ShloMosaic.TcCoe Idealize.SL.Sem
open Cert.ProjIdeal Cert.ProjIdeal.Gen Cert.Own.Cols Cert.Own.Norm Cert.Own.ProjInput Cert.Own.ProjBlock

variable (m : (ℓ : Loc nD τ sig) → Buf (Elt Ideal) ℓ) (c : Dev nD)

/-- The reference's result at the kernel's arguments. -/
def R : Buf (Elt Ideal) ((c : Thread nD τ).loc main_v32) :=
  Cert.ProjRefIdeal.Read.val_main_v49 (F := Ideal) (x m c) (g m c) (w m c)

theorem G_eq (hg : ∀ i, ∃ r : ℝ, (g m c i : EReal) = r) (hw : ∀ i, ∃ r : ℝ, (w m c i : EReal) = r) : G m c = R m c := by
  funext i
  have hi : i = ix2 (i 0) (i 1) := by funext a; match a with | ⟨0, _⟩ => rfl | ⟨1, _⟩ => rfl
  have hr : (R m c i : EReal) = _ := (congrArg (R m c) hi).trans (Cert.Own.ProjRef.result_eq (x m c) (g m c) (w m c) (i 0) (i 1))
  refine Eq.trans ?_ hr.symm
  exact arr_sum (hrow m c (i 0)) (fun k j => w m c (ix2 k j)) (fun k => normed_real (fun k => hg _) k) (fun k j => hw _) (i 1)

theorem real_of_pre (h : Cert.Pre_ProjIdeal_finite_gw (hPre_finite_gw := Cert.Pre_finite_gw.Gen.facts) m) :
    (∀ i, ∃ r : ℝ, (g m c i : EReal) = r) ∧ (∀ i, ∃ r : ℝ, (w m c i : EReal) = r) :=
  ⟨fun i => Cert.Own.Pre.real_of_olt _ (congrFun (h c).1 i), fun i => Cert.Own.Pre.real_of_olt _ (congrFun (h c).2 i)⟩

/-- The reference frees everything and changes no argument. -/
theorem ref_frame : Cert.quiescent_ProjRefIdeal (hProjRefIdeal := Cert.ProjRefIdeal.Gen.facts) := fun m g _ =>
  (θ_run _ _ _).mono (fun r h => ⟨fun c => (h c).2, sem_eq_zero_of_no_sems rfl r.2⟩) (Cert.ProjRefIdeal.Value.run m g)

/-- The two programs leave the same array. -/
theorem algebraic : Cert.algebraic_ProjIdeal_ProjRefIdeal_pre_finite_gw (hProjIdeal := Cert.ProjIdeal.Gen.facts)
    (hProjRefIdeal := Cert.ProjRefIdeal.Gen.facts) (hPre_finite_gw := Cert.Pre_finite_gw.Gen.facts) := fun m g m' g' hpre hag =>
  ⟨fun c => R m c,
    (θ_run _ _ _).mono (fun _ h c => ⟨(h c).1.trans ((array_eq m c).trans (G_eq m c (real_of_pre m c hpre).1 (real_of_pre m c hpre).2)), (h c).2⟩)
      (Cert.ProjIdeal.Value.run_blocks m g),
    (θ_run _ _ _).mono (fun _ h c => ⟨(h c).1.trans ((Cert.ProjRefIdeal.Read.val_main_v49_eq m' c).trans (by
        obtain ⟨h0, h1, h2⟩ := hag c; rw [h0, h1, h2]; rfl)), (h c).2⟩) (Cert.ProjRefIdeal.Value.run m' g')⟩

end Cert.Own.ProjTie

end
-- ==== Proof.lean ====
module

public import proofs.«01_k».proof.Defs
public import proofs.«01_k».proof.Proof.Gen.Attn
public import proofs.«01_k».proof.Proof.Gen.Attn.Skeleton
public import proofs.«01_k».proof.Proof.Gen.Attn.Loops
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Loops
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.Pre_finite_qk
public import proofs.«01_k».proof.Proof.Gen.AttnIdeal.Value
public import proofs.«01_k».proof.Proof.Gen.AttnRefIdeal.Run
public import proofs.«01_k».proof.Proof.Gen.AttnRefIdeal.Read
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.ProjRefIdeal.Run
public import proofs.«01_k».proof.Proof.Gen.ProjRefIdeal.Read
public import proofs.«01_k».proof.Proof.Gen.Pre_finite_gw
public import proofs.«01_k».proof.Proof.Gen.ProjIdeal.Value
public import proofs.«01_k».proof.Proof.Tie
public import proofs.«01_k».proof.Proof.Pre
public import proofs.«01_k».proof.Proof.ProjTie
public import Idealize.ShloMosaic.Lib.Quiescent
public import Idealize.ShloMosaic.Adequacy
public import Idealize.ShloMosaic.Init

@[expose] public section

noncomputable section

namespace Cert.Proof

open Idealize.ShloMosaic Idealize.SL.Sem

/-- The reference runs on the host alone: it has no semaphores, so each counter reads zero at the end. -/
theorem ref_frame : Cert.quiescent_AttnRefIdeal (hAttnRefIdeal := Cert.AttnRefIdeal.Gen.facts) := fun m g _ =>
  (θ_run _ _ _).mono (fun r h => ⟨fun c => (h c).2, sem_eq_zero_of_no_sems rfl r.2⟩) (Cert.AttnRefIdeal.Value.run m g)

/-- From finite queries and keys, the kernel over the extended reals writes the array the reference writes. -/
theorem algebraic : Cert.algebraic_AttnIdeal_AttnRefIdeal_pre_finite_qk (hAttnIdeal := Cert.AttnIdeal.Gen.facts)
    (hAttnRefIdeal := Cert.AttnRefIdeal.Gen.facts) (hPre_finite_qk := Cert.Pre_finite_qk.Gen.facts) :=
  fun m g m' g' hpre hag => ⟨fun c => Cert.Own.Tie.G m c,
    (θ_run _ _ _).mono (fun _ h c => ⟨(h c).1.trans (Cert.Own.Tie.array_eq (Cert.Own.Pre.finite_of_pre m hpre c)), (h c).2⟩)
      (Cert.AttnIdeal.Value.run_blocks m g),
    (θ_run _ _ _).mono (fun _ h c => ⟨(h c).1.trans ((Cert.AttnRefIdeal.Read.val_main_v27_eq m' c).trans (by
        obtain ⟨h0, h1, h2, h3, h4⟩ := hag c
        rw [h0, h1, h2, h3, h4]; rfl)), (h c).2⟩)
      (Cert.AttnRefIdeal.Value.run m' g')⟩

/-- The constants that the idealized kernel names: the query scale in the base of the exponential, and the mask. -/
theorem preserved : Cert.preserves_Attn_AttnIdeal :=
  ⟨IdealRules.named_const.statement Cert.AttnIdeal.κ "scale2" .f32 0x3E16C740#32
      (((3424635 / 33554432) * (Real.log 2)⁻¹ : ℝ) : EReal) rfl,
    IdealRules.named_const.statement Cert.AttnIdeal.κ "mask" .f32 0xF149F2CA#32 ⊥ rfl⟩

theorem claim : Cert.Claim :=
  ⟨Cert.Attn.Gen.facts, Cert.AttnIdeal.Gen.facts, Cert.AttnRefIdeal.Gen.facts, Cert.Proj.Gen.facts, Cert.ProjIdeal.Gen.facts,
    Cert.ProjRefIdeal.Gen.facts, Cert.Pre_finite_qk.Gen.facts, Cert.Pre_finite_gw.Gen.facts,
    fun m g _ => Cert.Attn.Gen.frame m g, fun m g _ => Cert.AttnIdeal.Gen.frame m g, fun m g _ => Cert.AttnIdeal.Gen.frame m g,
    ref_frame, fun m g _ => ref_frame m g trivial,
    fun m g _ => Cert.Proj.Gen.frame m g, fun m g _ => Cert.ProjIdeal.Gen.frame m g, fun m g _ => Cert.ProjIdeal.Gen.frame m g,
    Cert.Own.ProjTie.ref_frame, fun m g _ => Cert.Own.ProjTie.ref_frame m g trivial,
    preserved, algebraic, trivial, Cert.Own.ProjTie.algebraic⟩

end Cert.Proof

end
